-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 [hPre_sorted_blocks : Cert.Pre_sorted_blocks.Facts] (m : (ℓ : Loc Cert.Kernel2.nD Cert.Kernel2.τ Cert.Kernel2.sig) → Buf (Elt Bits) ℓ) : Prop :=
  ∀ c : Dev Cert.Kernel2.nD,
    (Cert.Pre_sorted_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_sorted_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.1 = (fun _ => 1#1)
    ∧ (Cert.Pre_sorted_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.1 = (fun _ => 1#1)
    ∧ (Cert.Pre_sorted_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2 = (fun _ => 1#1)

def Pre_Kernel2Ideal [hPre_sorted_blocks : Cert.Pre_sorted_blocks.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_sorted_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_sorted_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_sorted_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_sorted_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_sorted_blocks [hPre_sorted_blocks : Cert.Pre_sorted_blocks.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_sorted_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_sorted_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_sorted_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_sorted_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_sorted_blocks : Cert.Pre_sorted_blocks.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_sorted_blocks : Cert.Pre_sorted_blocks.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_sorted_blocks [hReference2Ideal : Cert.Reference2Ideal.Facts] [hPre_sorted_blocks : Cert.Pre_sorted_blocks.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_sorted_blocks m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_sorted_blocks : Cert.Pre_sorted_blocks.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_gains : Cert.Pre_finite_gains.Facts) (hPre_sorted_blocks : Cert.Pre_sorted_blocks.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2) (hPre_sorted_blocks := hPre_sorted_blocks)
    ∧ quiescent_Kernel2Ideal (hKernel2Ideal := hKernel2Ideal) (hPre_sorted_blocks := hPre_sorted_blocks)
    ∧ quiescent_Reference2Ideal (hReference2Ideal := hReference2Ideal)
    ∧ quiescent_Reference2Ideal_pre_sorted_blocks (hReference2Ideal := hReference2Ideal) (hPre_sorted_blocks := hPre_sorted_blocks)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal) (hPre_sorted_blocks := hPre_sorted_blocks)
    ∧ preserves_Kernel3_Kernel3Ideal
    ∧ algebraic_Kernel3Ideal_Reference3Ideal (hKernel3Ideal := hKernel3Ideal) (hReference3Ideal := hReference3Ideal)
-- ==== Pre_finite_gains.lean ====
abbrev S16x8x2304x128 : Shape := ⟨4, ![16, 8, 2304, 128]⟩
abbrev S64 : Shape := ⟨1, ![64]⟩
abbrev S128 : Shape := ⟨1, ![128]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S16x8x2304x128 .bf16) (main_arg1 : FVec F S16x8x2304x128 .bf16) (main_arg2 : FVec F S16x8x2304x128 .bf16) (main_arg3 : FVec F S64 .f32) (main_arg4 : FVec F S64 .f32) (main_arg5 : FVec F S64 .f32) (main_arg6 : FVec F S64 .f32) (main_arg7 : FVec F S64 .f32) (main_arg8 : FVec F S64 .f32) (main_arg9 : FVec F S128 .f32) : IVec S64 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg4
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : IVec S64 1 := andi main_v2 main_v5
  main_v6
-- ==== Pre_sorted_blocks.lean ====
abbrev S155648x1024 : Shape := ⟨2, ![155648, 1024]⟩
abbrev S608 : Shape := ⟨1, ![608]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S607 : Shape := ⟨1, ![607]⟩

class Facts : Prop where
  bcast_S_S1 : S_.BroadcastsInDim S1 (![] : Fin 0 → Fin S1.rank)
  slices_S608_S607_0 : S608.Slices ![0] S607
  concatenates_S1_S607_S608_d0 : Shape.Concatenates [S1, S607] S608 0
  bcast_S1_S608_0 : S1.BroadcastsInDim S608 (![0] : Fin 1 → Fin S608.rank)
  bcast_S_S608 : S_.BroadcastsInDim S608 (![] : Fin 0 → Fin S608.rank)

variable [Facts]

def fn {F : FTy → Type} [FloatOps F] (main_arg0 : FVec F S155648x1024 .f32) (main_arg1 : IVec S608 32) (main_arg2 : IVec S608 32) (main_arg3 : IVec S1 32) (main_arg4 : FVec F S32x1024x2048 .f32) (main_arg5 : FVec F S32x2048 .f32) (main_arg6 : FVec F S32x1024x1024 .f32) (main_arg7 : FVec F S32x1024 .f32) : IVec S608 1 × IVec S608 1 × IVec S608 1 × IVec S1 1 :=
  let main_c : IVec S_ 32 := constantI S_ 32 4294967295#32
  let main_v0 : IVec S1 32 := broadcastInDim S1 ![] bcast_S_S1 main_c
  let main_v1 : IVec S607 32 := (extractStridedSlice S607 ![0] · slices_S608_S607_0) main_arg1
  let main_v2 : IVec S608 32 := (fun a b => concatenate S608 0 [⟨S1, a⟩, ⟨S607, b⟩] concatenates_S1_S607_S608_d0) main_v0 main_v1
  let main_v3 : IVec S608 32 := iotaInDim S608 32 0
  let main_v4 : IVec S608 32 := broadcastInDim S608 ![0] bcast_S1_S608_0 main_arg3
  let main_v5 : IVec S608 1 := cmpi .sge main_v3 main_v4
  let main_c_0 : IVec S_ 32 := constantI S_ 32 0#32
  let main_v6 : IVec S608 32 := broadcastInDim S608 ![] bcast_S_S608 main_c_0
  let main_v7 : IVec S608 1 := cmpi .sge main_arg1 main_v6
  let main_c_1 : IVec S_ 32 := constantI S_ 32 32#32
  let main_v8 : IVec S608 32 := broadcastInDim S608 ![] bcast_S_S608 main_c_1
  let main_v9 : IVec S608 1 := cmpi .slt main_arg1 main_v8
  let main_v10 : IVec S608 1 := cmpi .eq main_arg1 main_v2
  let main_c_2 : IVec S_ 32 := constantI S_ 32 1#32
  let main_v11 : IVec S608 32 := broadcastInDim S608 ![] bcast_S_S608 main_c_2
  let main_v12 : IVec S608 1 := cmpi .eq main_arg2 main_v11
  let main_v13 : IVec S608 1 := ori main_v10 main_v12
  let main_v14 : IVec S608 1 := ori main_v13 main_v5
  let main_c_3 : IVec S_ 32 := constantI S_ 32 1#32
  let main_v15 : IVec S1 32 := broadcastInDim S1 ![] bcast_S_S1 main_c_3
  let main_v16 : IVec S1 1 := cmpi .sge main_arg3 main_v15
  (main_v7, main_v9, main_v14, main_v16)
-- ==== Kernel.lean ====
abbrev S16x8x2304x128 : Shape := ⟨4, ![16, 8, 2304, 128]⟩
abbrev S64 : Shape := ⟨1, ![64]⟩
abbrev S128 : Shape := ⟨1, ![128]⟩
abbrev S1x64 : Shape := ⟨2, ![1, 64]⟩
abbrev S4x64 : Shape := ⟨2, ![4, 64]⟩
abbrev S32 : Shape := ⟨1, ![32]⟩
abbrev S32x64 : Shape := ⟨2, ![32, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8x128 : Shape := ⟨2, ![8, 128]⟩
abbrev S1 : Shape := ⟨1, ![1]⟩
abbrev S2 : Shape := ⟨1, ![2]⟩
abbrev S2x64 : Shape := ⟨2, ![2, 64]⟩
abbrev S1x128 : Shape := ⟨2, ![1, 128]⟩
abbrev S16x2048x1024 : Shape := ⟨3, ![16, 2048, 1024]⟩
abbrev S1x1x256x128 : Shape := ⟨4, ![1, 1, 256, 128]⟩
abbrev S1x1x2304x128 : Shape := ⟨4, ![1, 1, 2304, 128]⟩
abbrev S256x128 : Shape := ⟨2, ![256, 128]⟩
abbrev S1x256x128 : Shape := ⟨3, ![1, 256, 128]⟩
abbrev S2304x128 : Shape := ⟨2, ![2304, 128]⟩
abbrev S256 : Shape := ⟨1, ![256]⟩
abbrev S256x1 : Shape := ⟨2, ![256, 1]⟩
abbrev S256x2304 : Shape := ⟨2, ![256, 2304]⟩
abbrev S1x1 : Shape := ⟨2, ![1, 1]⟩

abbrev nBuf : Space → Nat
  | .hbm => 69
  | .vmem => 19
  | .smem => 0
  | _ => 0

abbrev bufTy : (tb : Table) → Fin (tcTables nBuf tb) → BufTy
  | .hbm, ⟨0, _⟩ => ⟨S16x8x2304x128, .bf16⟩
  | .hbm, ⟨1, _⟩ => ⟨S16x8x2304x128, .bf16⟩
  | .hbm, ⟨2, _⟩ => ⟨S16x8x2304x128, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S32, .f32⟩
  | .hbm, ⟨16, _⟩ => ⟨S32x64, .f32⟩
  | .hbm, ⟨17, _⟩ => ⟨S2048, .f32⟩
  | .hbm, ⟨18, _⟩ => ⟨S64, .f32⟩
  | .hbm, ⟨19, _⟩ => ⟨S1x64, .f32⟩
  | .hbm, ⟨20, _⟩ => ⟨S32x64, .f32⟩
  | .hbm, ⟨21, _⟩ => ⟨S2048, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S1x2048x1x32, .f32⟩
  | .hbm, ⟨44, _⟩ => ⟨S1x2048x4x32, .f32⟩
  | .hbm, ⟨45, _⟩ => ⟨S2048x128, .f32⟩
  | .hbm, ⟨46, _⟩ => ⟨S2048x32, .f32⟩
  | .hbm, ⟨47, _⟩ => ⟨S2048x64, .f32⟩
  | .hbm, ⟨48, _⟩ => ⟨S1x2048x1x64, .f32⟩
  | .hbm, ⟨49, _⟩ => ⟨S1x2048x2x64, .f32⟩
  | .hbm, ⟨50, _⟩ => ⟨S2048x128, .f32⟩
  | .hbm, ⟨51, _⟩ => ⟨S_, .f32⟩
  | .hbm, ⟨52, _⟩ => ⟨S8x128, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S8x128, .f32⟩
  | .hbm, ⟨59, _⟩ => ⟨S1x64, .f32⟩
  | .hbm, ⟨60, _⟩ => ⟨S2x64, .f32⟩
  | .hbm, ⟨61, _⟩ => ⟨S128, .f32⟩
  | .hbm, ⟨62, _⟩ => ⟨S1x128, .f32⟩
  | .hbm, ⟨63, _⟩ => ⟨S1x64, .f32⟩
  | .hbm, ⟨64, _⟩ => ⟨S2x64, .f32⟩
  | .hbm, ⟨65, _⟩ => ⟨S128, .f32⟩
  | .hbm, ⟨66, _⟩ => ⟨S1x128, .f32⟩
  | .hbm, ⟨67, _⟩ => ⟨S1x128, .f32⟩
  | .hbm, ⟨68, _⟩ => ⟨S16x2048x1024, .bf16⟩
  | .local _ .vmem, ⟨0, _⟩ => ⟨S1x1x256x128, .bf16⟩
  | .local _ .vmem, ⟨1, _⟩ => ⟨S1x1x256x128, .bf16⟩
  | .local _ .vmem, ⟨2, _⟩ => ⟨S1x1x2304x128, .bf16⟩
  | .local _ .vmem, ⟨3, _⟩ => ⟨S1x1x2304x128, .bf16⟩
  | .local _ .vmem, ⟨4, _⟩ => ⟨S1x1x2304x128, .bf16⟩
  | .local _ .vmem, ⟨5, _⟩ => ⟨S1x1x2304x128, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S2048x128, .f32⟩
  | .local _ .vmem, ⟨13, _⟩ => ⟨S2048x128, .f32⟩
  | .local _ .vmem, ⟨14, _⟩ => ⟨S8x128, .f32⟩
  | .local _ .vmem, ⟨15, _⟩ => ⟨S1x128, .f32⟩
  | .local _ .vmem, ⟨16, _⟩ => ⟨S1x256x128, .bf16⟩
  | .local _ .vmem, ⟨17, _⟩ => ⟨S1x256x128, .bf16⟩
  | .local _ .vmem, ⟨18, _⟩ => ⟨S2304x128, .bf16⟩
  | _, _ => ⟨S16x8x2304x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_c : Ref sig .tc := ⟨.hbm, 53, rfl⟩
abbrev main_v40 : Ref sig .tc := ⟨.hbm, 54, rfl⟩
abbrev main_c_2 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![16, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let c0_i32_0 : BitVec 32 := 0#32
  ![arg0.toNat, arg1.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S16x8x2304x128 : Shape := ⟨4, ![16, 8, 2304, 128]⟩
abbrev S64 : Shape := ⟨1, ![64]⟩
abbrev S128 : Shape := ⟨1, ![128]⟩
abbrev S16x8x2304x2x64 : Shape := ⟨5, ![16, 8, 2304, 2, 64]⟩
abbrev S_ : Shape := ⟨0, ![]⟩
abbrev S16x8x2304x2 : Shape := ⟨4, ![16, 8, 2304, 2]⟩
abbrev S16x8x2304x2x1 : Shape := ⟨5, ![16, 8, 2304, 2, 1]⟩
abbrev S1x1x1x1x64 : Shape := ⟨5, ![1, 1, 1, 1, 64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x1x32 : Shape := ⟨3, ![2048, 1, 32]⟩
abbrev S16x8x2048x2x64 : Shape := ⟨5, ![16, 8, 2048, 2, 64]⟩
abbrev S16x8x2048x2x32 : Shape := ⟨5, ![16, 8, 2048, 2, 32]⟩
abbrev S1x1x2048x1x32 : Shape := ⟨5, ![1, 1, 2048, 1, 32]⟩
abbrev S16x8x256x2x64 : Shape := ⟨5, ![16, 8, 256, 2, 64]⟩
abbrev S16x8x2x2048x2304 : Shape := ⟨5, ![16, 8, 2, 2048, 2304]⟩
abbrev S16x8x2x2048 : Shape := ⟨4, ![16, 8, 2, 2048]⟩
abbrev S16x8x2x2048x1 : Shape := ⟨5, ![16, 8, 2, 2048, 1]⟩
abbrev S16x8x1x2048x2304 : Shape := ⟨5, ![16, 8, 1, 2048, 2304]⟩
abbrev S16x8x2048x2304 : Shape := ⟨4, ![16, 8, 2048, 2304]⟩
abbrev S16x8x128x2048 : Shape := ⟨4, ![16, 8, 128, 2048]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x1024 : Shape := ⟨3, ![16, 2048, 1024]⟩

abbrev nBuf : Space → Nat
  | .hbm => 174
  | .vmem => 0
  | .smem => 0
  | _ => 0

abbrev hbmTy0_0 (i : Nat) : BufTy := match i % 128 with
  | 0 => ⟨S16x8x2304x128, .bf16⟩
  | 1 => ⟨S16x8x2304x128, .bf16⟩
  | 2 => ⟨S16x8x2304x128, .bf16⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S128, .f32⟩
  | 10 => ⟨S16x8x2304x128, .f32⟩
  | 11 => ⟨S16x8x2304x128, .f32⟩
  | 12 => ⟨S16x8x2304x128, .f32⟩
  | 13 => ⟨S16x8x2304x2x64, .f32⟩
  | 14 => ⟨S16x8x2304x2x64, .f32⟩
  | 15 => ⟨S_, .f32⟩
  | 16 => ⟨S16x8x2304x2, .f32⟩
  | 17 => ⟨S16x8x2304x2x1, .f32⟩
  | 18 => ⟨S_, .f32⟩
  | 19 => ⟨S16x8x2304x2x1, .f32⟩
  | 20 => ⟨S16x8x2304x2x1, .f32⟩
  | 21 => ⟨S_, .f32⟩
  | 22 => ⟨S16x8x2304x2x1, .f32⟩
  | 23 => ⟨S16x8x2304x2x1, .f32⟩
  | 24 => ⟨S16x8x2304x2x1, .f32⟩
  | 25 => ⟨S16x8x2304x2x64, .f32⟩
  | 26 => ⟨S16x8x2304x2x64, .f32⟩
  | 27 => ⟨S1x1x1x1x64, .f32⟩
  | 28 => ⟨S16x8x2304x2x64, .f32⟩
  | 29 => ⟨S16x8x2304x2x64, .f32⟩
  | 30 => ⟨S16x8x2304x2x64, .f32⟩
  | 31 => ⟨S16x8x2304x2x64, .f32⟩
  | 32 => ⟨S_, .f32⟩
  | 33 => ⟨S16x8x2304x2, .f32⟩
  | 34 => ⟨S16x8x2304x2x1, .f32⟩
  | 35 => ⟨S_, .f32⟩
  | 36 => ⟨S16x8x2304x2x1, .f32⟩
  | 37 => ⟨S16x8x2304x2x1, .f32⟩
  | 38 => ⟨S_, .f32⟩
  | 39 => ⟨S16x8x2304x2x1, .f32⟩
  | 40 => ⟨S16x8x2304x2x1, .f32⟩
  | 41 => ⟨S16x8x2304x2x1, .f32⟩
  | 42 => ⟨S16x8x2304x2x64, .f32⟩
  | 43 => ⟨S16x8x2304x2x64, .f32⟩
  | 44 => ⟨S1x1x1x1x64, .f32⟩
  | 45 => ⟨S16x8x2304x2x64, .f32⟩
  | 46 => ⟨S16x8x2304x2x64, .f32⟩
  | 47 => ⟨S32, .f32⟩
  | 48 => ⟨S32x64, .f32⟩
  | 49 => ⟨S2048, .f32⟩
  | 50 => ⟨S64, .f32⟩
  | 51 => ⟨S1x64, .f32⟩
  | 52 => ⟨S32x64, .f32⟩
  | 53 => ⟨S2048, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S2048x1, .f32⟩
  | 63 => ⟨S1x16, .f32⟩
  | 64 => ⟨S2048x16, .f32⟩
  | 65 => ⟨S2048x16, .f32⟩
  | 66 => ⟨S2048x16, .f32⟩
  | 67 => ⟨S2048x1, .f32⟩
  | 68 => ⟨S1x16, .f32⟩
  | 69 => ⟨S2048x16, .f32⟩
  | 70 => ⟨S2048x16, .f32⟩
  | 71 => ⟨S2048x16, .f32⟩
  | 72 => ⟨S2048x32, .f32⟩
  | 73 => ⟨S2048x32, .f32⟩
  | 74 => ⟨S2048x32, .f32⟩
  | 75 => ⟨S2048x1x32, .f32⟩
  | 76 => ⟨S2048x1x32, .f32⟩
  | 77 => ⟨S16x8x2048x2x64, .f32⟩
  | 78 => ⟨S16x8x2048x2x32, .f32⟩
  | 79 => ⟨S16x8x2048x2x32, .f32⟩
  | 80 => ⟨S1x1x2048x1x32, .f32⟩
  | 81 => ⟨S16x8x2048x2x32, .f32⟩
  | 82 => ⟨S16x8x2048x2x32, .f32⟩
  | 83 => ⟨S1x1x2048x1x32, .f32⟩
  | 84 => ⟨S16x8x2048x2x32, .f32⟩
  | 85 => ⟨S16x8x2048x2x32, .f32⟩
  | 86 => ⟨S16x8x2048x2x32, .f32⟩
  | 87 => ⟨S1x1x2048x1x32, .f32⟩
  | 88 => ⟨S16x8x2048x2x32, .f32⟩
  | 89 => ⟨S16x8x2048x2x32, .f32⟩
  | 90 => ⟨S1x1x2048x1x32, .f32⟩
  | 91 => ⟨S16x8x2048x2x32, .f32⟩
  | 92 => ⟨S16x8x2048x2x32, .f32⟩
  | 93 => ⟨S16x8x2048x2x32, .f32⟩
  | 94 => ⟨S16x8x2048x2x64, .f32⟩
  | 95 => ⟨S16x8x2048x2x64, .f32⟩
  | 96 => ⟨S16x8x2048x2x32, .f32⟩
  | 97 => ⟨S16x8x2048x2x32, .f32⟩
  | 98 => ⟨S1x1x2048x1x32, .f32⟩
  | 99 => ⟨S16x8x2048x2x32, .f32⟩
  | 100 => ⟨S16x8x2048x2x32, .f32⟩
  | 101 => ⟨S1x1x2048x1x32, .f32⟩
  | 102 => ⟨S16x8x2048x2x32, .f32⟩
  | 103 => ⟨S16x8x2048x2x32, .f32⟩
  | 104 => ⟨S16x8x2048x2x32, .f32⟩
  | 105 => ⟨S1x1x2048x1x32, .f32⟩
  | 106 => ⟨S16x8x2048x2x32, .f32⟩
  | 107 => ⟨S16x8x2048x2x32, .f32⟩
  | 108 => ⟨S1x1x2048x1x32, .f32⟩
  | 109 => ⟨S16x8x2048x2x32, .f32⟩
  | 110 => ⟨S16x8x2048x2x32, .f32⟩
  | 111 => ⟨S16x8x2048x2x32, .f32⟩
  | 112 => ⟨S16x8x2048x2x64, .f32⟩
  | 113 => ⟨S16x8x256x2x64, .f32⟩
  | 114 => ⟨S16x8x2304x2x64, .f32⟩
  | 115 => ⟨S64, .f32⟩
  | 116 => ⟨S_, .f32⟩
  | 117 => ⟨S_, .f32⟩
  | 118 => ⟨S_, .f32⟩
  | 119 => ⟨S64, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S16x8x2x2048x2304, .f32⟩
  | 127 => ⟨S_, .f32⟩
  | _ => ⟨S16x8x2304x128, .bf16⟩

abbrev hbmTy0_1 (i : Nat) : BufTy := match i % 128 with
  | 0 => ⟨S16x8x2x2048x2304, .f32⟩
  | 1 => ⟨S16x8x2x2048x2304, .f32⟩
  | 2 => ⟨S_, .f32⟩
  | 3 => ⟨S16x8x2x2048, .f32⟩
  | 4 => ⟨S_, .f32⟩
  | 5 => ⟨S16x8x2x2048, .f32⟩
  | 6 => ⟨S16x8x2x2048, .f32⟩
  | 7 => ⟨S16x8x2x2048x1, .f32⟩
  | 8 => ⟨S16x8x2x2048x2304, .f32⟩
  | 9 => ⟨S16x8x2x2048x2304, .f32⟩
  | 10 => ⟨S16x8x2x2048x2304, .f32⟩
  | 11 => ⟨S_, .f32⟩
  | 12 => ⟨S16x8x2x2048, .f32⟩
  | 13 => ⟨S16x8x2x2048x1, .f32⟩
  | 14 => ⟨S16x8x2x2048x2304, .f32⟩
  | 15 => ⟨S16x8x2x2048x2304, .f32⟩
  | 16 => ⟨S16x8x1x2048x2304, .f32⟩
  | 17 => ⟨S16x8x2048x2304, .f32⟩
  | 18 => ⟨S16x8x1x2048x2304, .f32⟩
  | 19 => ⟨S16x8x2048x2304, .f32⟩
  | 20 => ⟨S16x8x2048x2304, .f32⟩
  | 21 => ⟨S16x8x2048x2304, .f32⟩
  | 22 => ⟨S16x8x2048x2304, .f32⟩
  | 23 => ⟨S16x8x128x2048, .f32⟩
  | 24 => ⟨S16x2048x8x128, .f32⟩
  | 25 => ⟨S16x2048x8x128, .f32⟩
  | 26 => ⟨S_, .f32⟩
  | 27 => ⟨S16x2048x8, .f32⟩
  | 28 => ⟨S16x2048x8x1, .f32⟩
  | 29 => ⟨S_, .f32⟩
  | 30 => ⟨S16x2048x8x1, .f32⟩
  | 31 => ⟨S16x2048x8x1, .f32⟩
  | 32 => ⟨S_, .f32⟩
  | 33 => ⟨S16x2048x8x1, .f32⟩
  | 34 => ⟨S16x2048x8x1, .f32⟩
  | 35 => ⟨S16x2048x8x1, .f32⟩
  | 36 => ⟨S16x2048x8x128, .f32⟩
  | 37 => ⟨S16x2048x8x128, .f32⟩
  | 38 => ⟨S1x1x1x128, .f32⟩
  | 39 => ⟨S16x2048x8x128, .f32⟩
  | 40 => ⟨S16x2048x8x128, .f32⟩
  | 41 => ⟨S_, .f32⟩
  | 42 => ⟨S16x2048x8x128, .f32⟩
  | 43 => ⟨S16x2048x8x128, .f32⟩
  | 44 => ⟨S16x2048x1024, .f32⟩
  | 45 => ⟨S16x2048x1024, .bf16⟩
  | _ => ⟨S16x8x2304x128, .bf16⟩

abbrev hbmTy (i : Nat) : BufTy := match i / 128 with
  | 0 => hbmTy0_0 i
  | 1 => hbmTy0_1 i
  | _ => ⟨S16x8x2304x128, .bf16⟩

abbrev bufTy : (tb : Table) → Fin (tcTables nBuf tb) → BufTy
  | .hbm, ⟨i, _⟩ => hbmTy i
  | _, _ => ⟨S16x8x2304x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_7 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_8 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_9 : Ref sig .tc := ⟨.hbm, 124, rfl⟩
abbrev main_v104 : Ref sig .tc := ⟨.hbm, 125, rfl⟩
abbrev main_v105 : Ref sig .tc := ⟨.hbm, 126, rfl⟩
abbrev main_cst_10 : Ref sig .tc := ⟨.hbm, 127, rfl⟩
abbrev main_v106 : Ref sig .tc := ⟨.hbm, 128, rfl⟩
abbrev main_v107 : Ref sig .tc := ⟨.hbm, 129, rfl⟩
abbrev main_cst_11 : Ref sig .tc := ⟨.hbm, 130, rfl⟩
abbrev main_v108 : Ref sig .tc := ⟨.hbm, 131, rfl⟩
abbrev main_cst_12 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_13 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_14 : Ref sig .tc := ⟨.hbm, 154, rfl⟩
abbrev main_v129 : Ref sig .tc := ⟨.hbm, 155, rfl⟩
abbrev main_v130 : Ref sig .tc := ⟨.hbm, 156, rfl⟩
abbrev main_cst_15 : Ref sig .tc := ⟨.hbm, 157, rfl⟩
abbrev main_v131 : Ref sig .tc := ⟨.hbm, 158, rfl⟩
abbrev main_v132 : Ref sig .tc := ⟨.hbm, 159, rfl⟩
abbrev main_cst_16 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_17 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩

abbrev nD : Nat := 1
abbrev τ : Topo := Topo.v7x

variable {F : FTy → Type} [FloatOps F]
-- ==== Kernel2.lean ====
abbrev S155648x1024 : Shape := ⟨2, ![155648, 1024]⟩
abbrev S608 : Shape := ⟨1, ![608]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S608x1 : Shape := ⟨2, ![608, 1]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 23
  | .vmem => 14
  | .smem => 3
  | _ => 0

abbrev bufTy : (tb : Table) → Fin (tcTables nBuf tb) → BufTy
  | .hbm, ⟨0, _⟩ => ⟨S155648x1024, .f32⟩
  | .hbm, ⟨1, _⟩ => ⟨S608, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S608, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S608, .i32⟩
  | .hbm, ⟨11, _⟩ => ⟨S608, .i32⟩
  | .hbm, ⟨12, _⟩ => ⟨S_, .i32⟩
  | .hbm, ⟨13, _⟩ => ⟨S608, .i32⟩
  | .hbm, ⟨14, _⟩ => ⟨S608, .i1⟩
  | .hbm, ⟨15, _⟩ => ⟨S_, .i32⟩
  | .hbm, ⟨16, _⟩ => ⟨S608, .i32⟩
  | .hbm, ⟨17, _⟩ => ⟨S608, .i32⟩
  | .hbm, ⟨18, _⟩ => ⟨S608, .i32⟩
  | .hbm, ⟨19, _⟩ => ⟨S608x1, .i32⟩
  | .hbm, ⟨20, _⟩ => ⟨S32x1x2048, .f32⟩
  | .hbm, ⟨21, _⟩ => ⟨S32x1x1024, .f32⟩
  | .hbm, ⟨22, _⟩ => ⟨S155648x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S608, .i32⟩
  | .local _ .smem, ⟨1, _⟩ => ⟨S608, .i32⟩
  | .local _ .smem, ⟨2, _⟩ => ⟨S1, .i32⟩
  | _, _ => ⟨S155648x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v11 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![608], ![false]⟩

abbrev pre0 : Pipeline.Prefetch sig := ⟨3, ![main_v11.idx, main_arg2.idx, main_arg3.idx], fun | 0 => main_v11.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S155648x1024 : Shape := ⟨2, ![155648, 1024]⟩
abbrev S608 : Shape := ⟨1, ![608]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S608x256x1024 : Shape := ⟨3, ![608, 256, 1024]⟩
abbrev S_ : Shape := ⟨0, ![]⟩
abbrev S608x1 : Shape := ⟨2, ![608, 1]⟩
abbrev S608x1024x2048 : Shape := ⟨3, ![608, 1024, 2048]⟩
abbrev S608x256x2048 : Shape := ⟨3, ![608, 256, 2048]⟩
abbrev S608x2048 : Shape := ⟨2, ![608, 2048]⟩
abbrev S608x1x2048 : Shape := ⟨3, ![608, 1, 2048]⟩
abbrev S608x1024x1024 : Shape := ⟨3, ![608, 1024, 1024]⟩
abbrev S608x1024 : Shape := ⟨2, ![608, 1024]⟩
abbrev S608x1x1024 : Shape := ⟨3, ![608, 1, 1024]⟩
abbrev S608x1x1 : Shape := ⟨3, ![608, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S155648x1024, .f32⟩
  | .hbm, ⟨1, _⟩ => ⟨S608, .i32⟩
  | .hbm, ⟨2, _⟩ => ⟨S608, .i32⟩
  | .hbm, ⟨3, _⟩ => ⟨S1, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S608x256x1024, .f32⟩
  | .hbm, ⟨9, _⟩ => ⟨S_, .i32⟩
  | .hbm, ⟨10, _⟩ => ⟨S608, .i32⟩
  | .hbm, ⟨11, _⟩ => ⟨S608, .i1⟩
  | .hbm, ⟨12, _⟩ => ⟨S_, .i32⟩
  | .hbm, ⟨13, _⟩ => ⟨S608, .i32⟩
  | .hbm, ⟨14, _⟩ => ⟨S608, .i32⟩
  | .hbm, ⟨15, _⟩ => ⟨S608, .i32⟩
  | .hbm, ⟨16, _⟩ => ⟨S608x1, .i32⟩
  | .hbm, ⟨17, _⟩ => ⟨S608x1024x2048, .f32⟩
  | .hbm, ⟨18, _⟩ => ⟨S608x256x2048, .f32⟩
  | .hbm, ⟨19, _⟩ => ⟨S_, .i32⟩
  | .hbm, ⟨20, _⟩ => ⟨S608, .i32⟩
  | .hbm, ⟨21, _⟩ => ⟨S608, .i1⟩
  | .hbm, ⟨22, _⟩ => ⟨S_, .i32⟩
  | .hbm, ⟨23, _⟩ => ⟨S608, .i32⟩
  | .hbm, ⟨24, _⟩ => ⟨S608, .i32⟩
  | .hbm, ⟨25, _⟩ => ⟨S608, .i32⟩
  | .hbm, ⟨26, _⟩ => ⟨S608x1, .i32⟩
  | .hbm, ⟨27, _⟩ => ⟨S608x2048, .f32⟩
  | .hbm, ⟨28, _⟩ => ⟨S608x1x2048, .f32⟩
  | .hbm, ⟨29, _⟩ => ⟨S608x256x2048, .f32⟩
  | .hbm, ⟨30, _⟩ => ⟨S608x256x2048, .f32⟩
  | .hbm, ⟨31, _⟩ => ⟨S608x256x1024, .f32⟩
  | .hbm, ⟨32, _⟩ => ⟨S608x256x1024, .f32⟩
  | .hbm, ⟨33, _⟩ => ⟨S_, .f32⟩
  | .hbm, ⟨34, _⟩ => ⟨S608x256x1024, .f32⟩
  | .hbm, ⟨35, _⟩ => ⟨S608x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S608x256x1024, .f32⟩
  | .hbm, ⟨40, _⟩ => ⟨S608x256x1024, .f32⟩
  | .hbm, ⟨41, _⟩ => ⟨S_, .f32⟩
  | .hbm, ⟨42, _⟩ => ⟨S608x256x1024, .f32⟩
  | .hbm, ⟨43, _⟩ => ⟨S608x256x1024, .f32⟩
  | .hbm, ⟨44, _⟩ => ⟨S_, .f32⟩
  | .hbm, ⟨45, _⟩ => ⟨S608x256x1024, .f32⟩
  | .hbm, ⟨46, _⟩ => ⟨S608x256x1024, .f32⟩
  | .hbm, ⟨47, _⟩ => ⟨S608x256x1024, .f32⟩
  | .hbm, ⟨48, _⟩ => ⟨S_, .f32⟩
  | .hbm, ⟨49, _⟩ => ⟨S608x256x1024, .f32⟩
  | .hbm, ⟨50, _⟩ => ⟨S608x256x1024, .f32⟩
  | .hbm, ⟨51, _⟩ => ⟨S608x256x1024, .f32⟩
  | .hbm, ⟨52, _⟩ => ⟨S608x256x1024, .f32⟩
  | .hbm, ⟨53, _⟩ => ⟨S_, .f32⟩
  | .hbm, ⟨54, _⟩ => ⟨S608x256x1024, .f32⟩
  | .hbm, ⟨55, _⟩ => ⟨S608x256x1024, .f32⟩
  | .hbm, ⟨56, _⟩ => ⟨S_, .f32⟩
  | .hbm, ⟨57, _⟩ => ⟨S608x256x1024, .f32⟩
  | .hbm, ⟨58, _⟩ => ⟨S608x256x1024, .f32⟩
  | .hbm, ⟨59, _⟩ => ⟨S608x256x1024, .f32⟩
  | .hbm, ⟨60, _⟩ => ⟨S_, .i32⟩
  | .hbm, ⟨61, _⟩ => ⟨S608, .i32⟩
  | .hbm, ⟨62, _⟩ => ⟨S608, .i1⟩
  | .hbm, ⟨63, _⟩ => ⟨S_, .i32⟩
  | .hbm, ⟨64, _⟩ => ⟨S608, .i32⟩
  | .hbm, ⟨65, _⟩ => ⟨S608, .i32⟩
  | .hbm, ⟨66, _⟩ => ⟨S608, .i32⟩
  | .hbm, ⟨67, _⟩ => ⟨S608x1, .i32⟩
  | .hbm, ⟨68, _⟩ => ⟨S608x1024x1024, .f32⟩
  | .hbm, ⟨69, _⟩ => ⟨S608x256x1024, .f32⟩
  | .hbm, ⟨70, _⟩ => ⟨S_, .i32⟩
  | .hbm, ⟨71, _⟩ => ⟨S608, .i32⟩
  | .hbm, ⟨72, _⟩ => ⟨S608, .i1⟩
  | .hbm, ⟨73, _⟩ => ⟨S_, .i32⟩
  | .hbm, ⟨74, _⟩ => ⟨S608, .i32⟩
  | .hbm, ⟨75, _⟩ => ⟨S608, .i32⟩
  | .hbm, ⟨76, _⟩ => ⟨S608, .i32⟩
  | .hbm, ⟨77, _⟩ => ⟨S608x1, .i32⟩
  | .hbm, ⟨78, _⟩ => ⟨S608x1024, .f32⟩
  | .hbm, ⟨79, _⟩ => ⟨S608x1x1024, .f32⟩
  | .hbm, ⟨80, _⟩ => ⟨S608x256x1024, .f32⟩
  | .hbm, ⟨81, _⟩ => ⟨S608x256x1024, .f32⟩
  | .hbm, ⟨82, _⟩ => ⟨S608, .i32⟩
  | .hbm, ⟨83, _⟩ => ⟨S608, .i32⟩
  | .hbm, ⟨84, _⟩ => ⟨S608, .i1⟩
  | .hbm, ⟨85, _⟩ => ⟨S608x1x1, .i1⟩
  | .hbm, ⟨86, _⟩ => ⟨S_, .f32⟩
  | .hbm, ⟨87, _⟩ => ⟨S_, .f32⟩
  | .hbm, ⟨88, _⟩ => ⟨S608x256x1024, .i1⟩
  | .hbm, ⟨89, _⟩ => ⟨S608x256x1024, .f32⟩
  | .hbm, ⟨90, _⟩ => ⟨S608x256x1024, .f32⟩
  | .hbm, ⟨91, _⟩ => ⟨S155648x1024, .f32⟩
  | _, _ => ⟨S155648x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Kernel3.lean ====
abbrev S16x2304x1024 : Shape := ⟨3, ![16, 2304, 1024]⟩
abbrev S24x2048 : Shape := ⟨2, ![24, 2048]⟩
abbrev S1024 : Shape := ⟨1, ![1024]⟩
abbrev S1024x3072 : Shape := ⟨2, ![1024, 3072]⟩
abbrev S1x1024 : Shape := ⟨2, ![1, 1024]⟩
abbrev S16x8x2304x128 : Shape := ⟨4, ![16, 8, 2304, 128]⟩
abbrev S1x256x1024 : Shape := ⟨3, ![1, 256, 1024]⟩
abbrev S1x8x256x128 : Shape := ⟨4, ![1, 8, 256, 128]⟩
abbrev S1x2048 : Shape := ⟨2, ![1, 2048]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩
abbrev S1x1x256x128 : Shape := ⟨4, ![1, 1, 256, 128]⟩

abbrev nBuf : Space → Nat
  | .hbm => 9
  | .vmem => 11
  | .smem => 0
  | _ => 0

abbrev bufTy : (tb : Table) → Fin (tcTables nBuf tb) → BufTy
  | .hbm, ⟨0, _⟩ => ⟨S16x2304x1024, .f32⟩
  | .hbm, ⟨1, _⟩ => ⟨S24x2048, .f32⟩
  | .hbm, ⟨2, _⟩ => ⟨S1024, .f32⟩
  | .hbm, ⟨3, _⟩ => ⟨S1024x3072, .f32⟩
  | .hbm, ⟨4, _⟩ => ⟨S1x1024, .f32⟩
  | .hbm, ⟨5, _⟩ => ⟨S1024x3072, .bf16⟩
  | .hbm, ⟨6, _⟩ => ⟨S16x8x2304x128, .bf16⟩
  | .hbm, ⟨7, _⟩ => ⟨S16x8x2304x128, .bf16⟩
  | .hbm, ⟨8, _⟩ => ⟨S16x8x2304x128, .bf16⟩
  | .local _ .vmem, ⟨0, _⟩ => ⟨S1x256x1024, .f32⟩
  | .local _ .vmem, ⟨1, _⟩ => ⟨S1x256x1024, .f32⟩
  | .local _ .vmem, ⟨2, _⟩ => ⟨S24x2048, .f32⟩
  | .local _ .vmem, ⟨3, _⟩ => ⟨S1x1024, .f32⟩
  | .local _ .vmem, ⟨4, _⟩ => ⟨S1024x3072, .bf16⟩
  | .local _ .vmem, ⟨5, _⟩ => ⟨S1x8x256x128, .bf16⟩
  | .local _ .vmem, ⟨6, _⟩ => ⟨S1x8x256x128, .bf16⟩
  | .local _ .vmem, ⟨7, _⟩ => ⟨S1x8x256x128, .bf16⟩
  | .local _ .vmem, ⟨8, _⟩ => ⟨S1x8x256x128, .bf16⟩
  | .local _ .vmem, ⟨9, _⟩ => ⟨S1x8x256x128, .bf16⟩
  | .local _ .vmem, ⟨10, _⟩ => ⟨S1x8x256x128, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 9], ![false, false]⟩

def k0_off1 (i : grid0.Coords) : Fin 2 → Nat :=
  let arg1 : BitVec 32 := BitVec.ofNat 32 (i 1).val
  let c1_i32 : BitVec 32 := 1#32
  let v0 : BitVec 1 := Scalar.cmpi .slt arg1 c1_i32
  let c16_i32 : BitVec 32 := 16#32
  let arg0 : BitVec 32 := BitVec.ofNat 32 (i 0).val
  let v1 : BitVec 32 := Scalar.select v0 c16_i32 arg0
  let v2 : Index := Scalar.indexCast v1
  let c0 : Index := 0#32
  ![v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16x2304x1024 : Shape := ⟨3, ![16, 2304, 1024]⟩
abbrev S24x2048 : Shape := ⟨2, ![24, 2048]⟩
abbrev S1024 : Shape := ⟨1, ![1024]⟩
abbrev S1024x3072 : Shape := ⟨2, ![1024, 3072]⟩
abbrev S16x2048 : Shape := ⟨2, ![16, 2048]⟩
abbrev S16x1x2048 : Shape := ⟨3, ![16, 1, 2048]⟩
abbrev S1x2048 : Shape := ⟨2, ![1, 2048]⟩
abbrev S2048 : Shape := ⟨1, ![2048]⟩
abbrev S16x1x1024 : Shape := ⟨3, ![16, 1, 1024]⟩
abbrev S16x256x1024 : Shape := ⟨3, ![16, 256, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x2048x1024 : Shape := ⟨3, ![16, 2048, 1024]⟩
abbrev S16x2048x1 : Shape := ⟨3, ![16, 2048, 1]⟩
abbrev S16x256x3072 : Shape := ⟨3, ![16, 256, 3072]⟩
abbrev S16x2048x3072 : Shape := ⟨3, ![16, 2048, 3072]⟩
abbrev S16x2304x3072 : Shape := ⟨3, ![16, 2304, 3072]⟩
abbrev S16x2304x8x128 : Shape := ⟨4, ![16, 2304, 8, 128]⟩
abbrev S16x8x2304x128 : Shape := ⟨4, ![16, 8, 2304, 128]⟩

abbrev nBuf : Space → Nat
  | .hbm => 77
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S24x2048, .f32⟩
  | .hbm, ⟨2, _⟩ => ⟨S1024, .f32⟩
  | .hbm, ⟨3, _⟩ => ⟨S1024x3072, .f32⟩
  | .hbm, ⟨4, _⟩ => ⟨S16x2048, .f32⟩
  | .hbm, ⟨5, _⟩ => ⟨S16x1x2048, .f32⟩
  | .hbm, ⟨6, _⟩ => ⟨S1x2048, .f32⟩
  | .hbm, ⟨7, _⟩ => ⟨S2048, .f32⟩
  | .hbm, ⟨8, _⟩ => ⟨S16x1x1024, .f32⟩
  | .hbm, ⟨9, _⟩ => ⟨S16x1x1024, .f32⟩
  | .hbm, ⟨10, _⟩ => ⟨S1024, .f32⟩
  | .hbm, ⟨11, _⟩ => ⟨S1024, .f32⟩
  | .hbm, ⟨12, _⟩ => ⟨S16x256x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S1x1x1024, .f32⟩
  | .hbm, ⟨36, _⟩ => ⟨S16x256x1024, .f32⟩
  | .hbm, ⟨37, _⟩ => ⟨S16x256x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S_, .f32⟩
  | .hbm, ⟨56, _⟩ => ⟨S16x1x1024, .f32⟩
  | .hbm, ⟨57, _⟩ => ⟨S16x1x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x256x3072, .f32⟩
  | .hbm, ⟨63, _⟩ => ⟨S16x2048x3072, .f32⟩
  | .hbm, ⟨64, _⟩ => ⟨S16x2304x3072, .f32⟩
  | .hbm, ⟨65, _⟩ => ⟨S16x2304x1024, .f32⟩
  | .hbm, ⟨66, _⟩ => ⟨S16x2304x1024, .f32⟩
  | .hbm, ⟨67, _⟩ => ⟨S16x2304x1024, .f32⟩
  | .hbm, ⟨68, _⟩ => ⟨S16x2304x8x128, .f32⟩
  | .hbm, ⟨69, _⟩ => ⟨S16x8x2304x128, .f32⟩
  | .hbm, ⟨70, _⟩ => ⟨S16x8x2304x128, .bf16⟩
  | .hbm, ⟨71, _⟩ => ⟨S16x2304x8x128, .f32⟩
  | .hbm, ⟨72, _⟩ => ⟨S16x8x2304x128, .f32⟩
  | .hbm, ⟨73, _⟩ => ⟨S16x8x2304x128, .bf16⟩
  | .hbm, ⟨74, _⟩ => ⟨S16x2304x8x128, .f32⟩
  | .hbm, ⟨75, _⟩ => ⟨S16x8x2304x128, .f32⟩
  | .hbm, ⟨76, _⟩ => ⟨S16x8x2304x128, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Proof.Attn.Spec.lean ====
module

public import Idealize.ShloMosaic.Lib.IdealHost
public import Idealize.ShloMosaic.Lib.Pointwise

@[expose] public section

set_option maxRecDepth 16384

/-! # Differential attention over one query row, at the extended reals

The functions both programs are read as, and the laws that carry the kernel's form of each to the plain one. -/

noncomputable section

namespace Cert.Attn

open Idealize.ShloMosaic
open scoped BigOperators

/-- The constant under every root mean square. -/
abbrev eps : EReal := Ideal.ofBits .f32 0x358637BD#32
/-- The starting value of every maximum. -/
abbrev negInf : EReal := Ideal.ofBits .f32 0xFF800000#32
/-- The scale of the scores, one eighth. -/
abbrev scale : EReal := Ideal.ofBits .f32 0x3E000000#32
/-- The constant part of the weight of the second attention map. -/
abbrev lamInit : EReal := Ideal.ofBits .f32 0x3EB60549#32
/-- One minus that constant, the last factor of the result. -/
abbrev outScale : EReal := Ideal.ofBits .f32 0x3F24FD5C#32

/-! ### The plain functions -/

/-- The mean of the squares of one head component. -/
def meanSq (x : Fin 64 → EReal) : EReal := Ideal.div (∑ e, x e * x e) (Ideal.ofBits .f32 0x42800000#32)

/-- The root mean square normalisation of one head component, with its gain. -/
def normed (x g : Fin 64 → EReal) (d : Fin 64) : EReal := x d * Ideal.rsqrt (meanSq x + eps) * g d

/-- The rotary embedding: the two halves of a component turned by the angles of a position. -/
def roped (y : Fin 64 → EReal) (co si : Fin 32 → EReal) (d : Fin 64) : EReal :=
  if h : d.val < 32 then y d * co ⟨d.val, h⟩ - y ⟨d.val + 32, by omega⟩ * si ⟨d.val, h⟩
  else y d * co ⟨d.val - 32, by omega⟩ + y ⟨d.val - 32, by omega⟩ * si ⟨d.val - 32, by omega⟩

/-- The scaled score of a query component against a key component. -/
def score (q k : Fin 64 → EReal) : EReal := (∑ d, q d * k d) * scale

/-- The largest score of a row. -/
def rowMax {n : Nat} (s : Fin n → EReal) : EReal := Finset.fold max negInf s Finset.univ

/-- The exponential of a score less the largest. -/
def expo {n : Nat} (s : Fin n → EReal) (j : Fin n) : EReal := Ideal.exp (s j - rowMax s)

/-- The softmax of a row of scores. -/
def soft {n : Nat} (s : Fin n → EReal) (j : Fin n) : EReal := Ideal.div (expo s j) (∑ i, expo s i)

/-- The weight of the second attention map. -/
def lam (a b c d : Fin 64 → EReal) : EReal :=
  Ideal.exp (∑ e, a e * b e) - Ideal.exp (∑ e, c e * d e) + lamInit

/-- The difference of two attention maps, the second with its weight, applied to the values. -/
def mixed {n : Nat} (l : EReal) (s0 s1 : Fin n → EReal) (v : Fin n → Fin 128 → EReal) (e : Fin 128) : EReal :=
  ∑ j, (soft s0 j - l * soft s1 j) * v j e

/-- The normalised result of a head, with its gain and its last factor. -/
def headOut (o g : Fin 128 → EReal) (e : Fin 128) : EReal :=
  o e * Ideal.rsqrt (Ideal.div (∑ i, o i * o i) (Ideal.ofBits .f32 0x43000000#32) + eps) * g e * outScale

/-- The rotation speed of a pair of entries. -/
def speed (f : Nat) : EReal :=
  Ideal.exp (Ideal.div (Ideal.ofBits .f32 0xC1135D8E#32 * FloatOps.sitofp (F := Ideal) .f32 (BitVec.ofNat 32 f)) (Ideal.ofBits .f32 0x41800000#32))

/-- The angle of latent position `p` for pair `f`: its row of the 64-wide grid for the first sixteen pairs, its column for the others. -/
def angle (p : Nat) (f : Fin 32) : EReal :=
  if f.val < 16 then FloatOps.sitofp (F := Ideal) .f32 (BitVec.ofNat 32 (p / 64)) * speed f.val
  else FloatOps.sitofp (F := Ideal) .f32 (BitVec.ofNat 32 (p % 64)) * speed (f.val - 16)

/-- A row of keys as the attention takes it: normalised, and turned if its position is latent. -/
def keyRow (x g : Fin 64 → EReal) (j : Nat) : Fin 64 → EReal :=
  if j < 256 then normed x g else roped (normed x g) (fun f => Ideal.cos (angle (j - 256) f)) (fun f => Ideal.sin (angle (j - 256) f))

/-! ### The constants -/

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_8th : scale = ((1 / 8 : ℝ) : EReal) := by
  simp [Ideal.ofBits, Ideal.ieee, -EReal.coe_mul]; norm_num

theorem eps_pos : ∃ r : ℝ, 0 < r ∧ eps = (r : EReal) := by
  refine ⟨8796093 * 2 ^ (-43 : ℤ), by positivity, ?_⟩
  simp [Ideal.ofBits, Ideal.ieee, -EReal.coe_mul]

theorem negInf_eq : negInf = ⊥ := by
  simp [Ideal.ofBits, Ideal.ieee]

/-! ### Real values -/

/-- A value that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, by norm_cast⟩

theorem IsReal.add {x y : EReal} (hx : IsReal x) (hy : IsReal y) : IsReal (x + y) := by
  obtain ⟨a, rfl⟩ := hx; obtain ⟨b, rfl⟩ := hy; exact ⟨a + b, by norm_cast⟩

theorem IsReal.sub {x y : EReal} (hx : IsReal x) (hy : IsReal y) : IsReal (x - y) := by
  obtain ⟨a, rfl⟩ := hx; obtain ⟨b, rfl⟩ := hy; exact ⟨a - b, by norm_cast⟩

theorem IsReal.neg {x : EReal} (hx : IsReal x) : IsReal (-x) := by
  obtain ⟨a, rfl⟩ := hx; exact ⟨-a, by norm_cast⟩

theorem IsReal.sum {ι : Type} (s : Finset ι) {f : ι → EReal} (h : ∀ i, IsReal (f i)) : IsReal (∑ i ∈ s, f i) := by
  classical
  induction s using Finset.induction with
  | empty => exact ⟨0, by simp⟩
  | insert a s ha ih => rw [Finset.sum_insert ha]; exact (h a).add ih

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem real_or (x : EReal) : IsReal x ∨ x * x = ⊤ := by
  induction x using EReal.rec with
  | bot => right; rfl
  | top => right; rfl
  | coe r => left; exact ⟨r, rfl⟩

/-- A component normalised with real gains is real, whatever the component. -/
theorem normed_real (x g : Fin 64 → EReal) (hg : ∀ d, IsReal (g d)) (d : Fin 64) : IsReal (normed x g d) := by
  obtain ⟨r, hr, he⟩ := eps_pos
  unfold normed meanSq
  rw [he, ofBits_64, Ideal.div_coe (by norm_num)]
  refine IsReal.mul ?_ (hg d)
  by_cases hx : ∀ e, IsReal (x e)
  · choose y hy using hx
    have hs : ∑ e, x e * x e = ((∑ e, y e * y e : ℝ) : EReal) := by
      rw [show (((∑ e, y e * y e : ℝ)) : EReal) = ∑ e, ((y e * y e : ℝ) : EReal) from map_sum (⟨⟨Real.toEReal, rfl⟩, EReal.coe_add⟩ : ℝ →+ EReal) _ _]
      exact Finset.sum_congr rfl fun e _ => by rw [hy e, EReal.coe_mul]
    have h0 : (0 : ℝ) ≤ ∑ e, y e * y e := Finset.sum_nonneg fun e _ => mul_self_nonneg _
    have hp : 0 < (∑ e, y e * y e) * (1 / 64) + r := by positivity
    rw [hs, ← EReal.coe_mul, ← EReal.coe_add, Ideal.rsqrt_coe, if_neg (not_lt.mpr hp.le), if_neg hp.ne', hy d]
    exact ⟨_, (EReal.coe_mul _ _).symm⟩
  · push Not at hx
    obtain ⟨e, hx⟩ := hx
    have ht : x e * x e = ⊤ := (real_or (x e)).resolve_left hx
    have hs : ∑ e, x e * x e = ⊤ := by
      refine top_le_iff.mp ?_
      rw [← ht]
      exact Finset.single_le_sum (f := fun e => x e * x e) (fun i _ => sq_nonneg' _) (Finset.mem_univ e)
    rw [hs, EReal.top_mul_coe_of_pos (by norm_num), EReal.top_add_coe, Ideal.rsqrt_top, mul_zero]
    exact ⟨0, rfl⟩

theorem roped_real (y : Fin 64 → EReal) (co si : Fin 32 → EReal) (hy : ∀ d, IsReal (y d)) (hc : ∀ d, IsReal (co d))
    (hs : ∀ d, IsReal (si d)) (d : Fin 64) : IsReal (roped y co si d) := by
  unfold roped
  split
  · exact ((hy _).mul (hc _)).sub ((hy _).mul (hs _))
  · exact ((hy _).mul (hc _)).add ((hy _).mul (hs _))

theorem scale_real : IsReal scale := ⟨_, ofBits_8th⟩

theorem score_real (q k : Fin 64 → EReal) (hq : ∀ d, IsReal (q d)) (hk : ∀ d, IsReal (k d)) : IsReal (score q k) :=
  (IsReal.sum _ fun d => (hq d).mul (hk d)).mul scale_real

/-- The scale may be taken into the sum, over real factors. -/
theorem score_eq (q k : Fin 64 → EReal) : ∑ d, (q d * scale) * k d = score q k := by
  unfold score
  rw [ofBits_8th]
  have h8 : (0 : EReal) ≤ ((1 / 8 : ℝ) : EReal) := by exact_mod_cast (by norm_num : (0 : ℝ) ≤ 1 / 8)
  generalize (Finset.univ : Finset (Fin 64)) = s
  induction s using Finset.induction with
  | empty => simp
  | insert a s ha ih =>
    rw [Finset.sum_insert ha, Finset.sum_insert ha, ih, EReal.right_distrib_of_nonneg_of_ne_top h8 (EReal.coe_ne_top _)]
    congr 1
    rw [mul_assoc, mul_comm _ (k a), ← mul_assoc]

theorem sitofp_real (w : BitVec 32) : IsReal (FloatOps.sitofp (F := Ideal) .f32 w) := ⟨_, rfl⟩

theorem angle_real (p : Nat) (f : Fin 32) : IsReal (angle p f) := by
  have hs : ∀ n, IsReal (speed n) := fun n => by
    have hb : IsReal (Ideal.ofBits .f32 0xC1135D8E#32) := by
      refine ⟨-(9657742 * 2 ^ (-20 : ℤ)), ?_⟩
      simp [Ideal.ofBits, Ideal.ieee, -EReal.coe_mul, -EReal.coe_neg]
    have h16 : Ideal.ofBits .f32 0x41800000#32 = ((16 : ℝ) : EReal) := by
      simp [Ideal.ofBits, Ideal.ieee, -EReal.coe_mul]; norm_num
    unfold speed
    rw [h16, Ideal.div_coe (by norm_num)]
    obtain ⟨r, hr⟩ := (hb.mul (sitofp_real (BitVec.ofNat 32 n))).mul ⟨1 / 16, rfl⟩
    rw [hr]; exact ⟨_, rfl⟩
  unfold angle
  split
  · exact (sitofp_real _).mul (hs _)
  · exact (sitofp_real _).mul (hs _)

theorem cos_real (p : Nat) (f : Fin 32) : IsReal (Ideal.cos (angle p f)) := by
  obtain ⟨r, hr⟩ := angle_real p f; rw [hr]; exact ⟨_, rfl⟩

theorem sin_real (p : Nat) (f : Fin 32) : IsReal (Ideal.sin (angle p f)) := by
  obtain ⟨r, hr⟩ := angle_real p f; rw [hr]; exact ⟨_, rfl⟩

/-! ### The softmax over real scores -/

theorem rowMax_real {n : Nat} (s : Fin n → EReal) (hn : 0 < n) (hs : ∀ j, IsReal (s j)) : IsReal (rowMax s) := by
  obtain ⟨a, ha⟩ := hs ⟨0, hn⟩
  have h1 : s ⟨0, hn⟩ ≤ rowMax s := Finset.le_fold_max _ |>.mpr (Or.inr ⟨⟨0, hn⟩, Finset.mem_univ _, le_rfl⟩)
  have h2 : rowMax s < ⊤ := by
    refine (Finset.fold_max_lt _).mpr ⟨by rw [negInf_eq]; exact bot_lt_top, fun j _ => ?_⟩
    obtain ⟨b, hb⟩ := hs j; rw [hb]; exact EReal.coe_lt_top b
  rw [ha] at h1
  have h3 : rowMax s ≠ ⊥ := fun h => by rw [h] at h1; exact absurd h1 (by simp)
  exact ⟨(rowMax s).toReal, (EReal.coe_toReal h2.ne h3).symm⟩

theorem expo_sum_ne {n : Nat} (s : Fin n → EReal) (hn : 0 < n) (hs : ∀ j, IsReal (s j)) : (∑ j, expo s j) ≠ 0 := by
  have hp : ∀ j, 0 < expo s j := fun j => by
    obtain ⟨a, ha⟩ := (hs j).sub (rowMax_real s hn hs)
    rw [expo, ha, Ideal.exp_coe]; exact_mod_cast Real.exp_pos a
  have h := Finset.single_le_sum (f := expo s) (fun i _ => (hp i).le) (Finset.mem_univ (⟨0, hn⟩ : Fin n))
  exact (lt_of_lt_of_le (hp _) h).ne'

/-- The exponential times the reciprocal of the sum is the softmax. -/
theorem soft_eq {n : Nat} (s : Fin n → EReal) (hn : 0 < n) (hs : ∀ j, IsReal (s j)) (j : Fin n) :
    expo s j * Ideal.div 1 (∑ i, expo s i) = soft s j := Ideal.mul_one_div (expo_sum_ne s hn hs)

/-- The maximum against its own starting value is the maximum. -/
theorem max_rowMax {n : Nat} (s : Fin n → EReal) : max negInf (rowMax s) = rowMax s := by
  rw [negInf_eq]; exact max_eq_right bot_le

/-! ### Lanes: two components of 64 side by side -/

/-- The lane of entry `d` of component `c`. -/
def lane (c : Fin 2) (d : Fin 64) : Fin 128 := ⟨c.val * 64 + d.val, by omega⟩

/-- A choice by the component of a lane. -/
theorem sel_comp {α : Type} (l : Fin 128) (a b : α) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide
  rw [h]; split <;> rfl

/-- The same at a lane reached by a rotation. -/
theorem sel_comp_mod {α : Type} (n : Nat) (a b : α) :
    Scalar.select (IntOp.cmpi .slt (BitVec.ofNat 32 (n % 128)) 64#32) a b = if n % 128 < 64 then a else b :=
  sel_comp ⟨n % 128, Nat.mod_lt _ (by decide)⟩ a b

/-- A choice by the half of its component a lane lies in. -/
theorem sel_half {α : Type} (l : Fin 128) (a b : α) :
    Scalar.select (IntOp.cmpi .slt (IntOp.remsi ArithUnit.vector (BitVec.ofNat 32 l.val) 64#32) 32#32) a b
      = if l.val % 64 < 32 then a else b := by
  have h : ∀ l : Fin 128, IntOp.cmpi .slt (IntOp.remsi ArithUnit.vector (BitVec.ofNat 32 l.val) 64#32) 32#32
      = if l.val % 64 < 32 then 1#1 else 0#1 := by decide
  rw [h]; split <;> rfl

theorem sum_comp0 (f : Fin 128 → EReal) : (∑ l : Fin 128, if l.val < 64 then f l else 0) = ∑ d, f (lane 0 d) := by
  rw [Fin.sum_univ_two_halves 64 64 rfl]
  simp [lane]

theorem sum_comp1 (f : Fin 128 → EReal) : (∑ l : Fin 128, if l.val < 64 then 0 else f l) = ∑ d, f (lane 1 d) := by
  rw [Fin.sum_univ_two_halves 64 64 rfl]
  simp [lane]

/-- The normalisation over both components at once, as the kernel chooses between two masked sums. -/
def normLanes (x g : Fin 128 → EReal) (l : Fin 128) : EReal :=
  x l * Ideal.rsqrt ((if l.val < 64 then ∑ l : Fin 128, (if l.val < 64 then x l * x l else 0)
        else ∑ l : Fin 128, (if l.val < 64 then 0 else x l * x l)) * Ideal.ofBits .f32 0x3C800000#32 + eps) * g l

theorem norm_lane (x g : Fin 128 → EReal) (c : Fin 2) (d : Fin 64) :
    normLanes x g (lane c d) = normed (fun d => x (lane c d)) (fun d => g (lane c d)) d := by
  unfold normLanes normed meanSq
  rw [sum_comp0 fun l => x l * x l, sum_comp1 fun l => x l * x l, ofBits_64, Ideal.div_coe (by norm_num), ofBits_64th]
  fin_cases c
  · rw [if_pos (by simp [lane])]; rfl
  · rw [if_neg (by simp [lane])]; rfl

/-- The turned lane: the kernel's partner lanes and signed sines are the plain turn of a component. -/
theorem rope_lane (y co si : Fin 128 → EReal) (co' si' : Fin 32 → EReal) (c : Fin 2)
    (hco : ∀ d : Fin 64, co (lane c d) = co' ⟨d.val % 32, by omega⟩)
    (hsi : ∀ d : Fin 64, si (lane c d) = if d.val < 32 then -si' ⟨d.val % 32, by omega⟩ else si' ⟨d.val % 32, by omega⟩) (d : Fin 64) :
    y (lane c d) * co (lane c d) + (if (lane c d).val % 64 < 32 then y ⟨((lane c d).val + 128 - 96) % 128, Nat.mod_lt _ (by decide)⟩
        else y ⟨((lane c d).val + 128 - 32) % 128, Nat.mod_lt _ (by decide)⟩) * si (lane c d)
      = roped (fun d => y (lane c d)) co' si' d := by
  have hm : (lane c d).val % 64 = d.val := by simp only [lane]; omega
  unfold roped
  rw [hco, hsi, hm]
  by_cases h : d.val < 32
  · rw [dif_pos h, if_pos h, if_pos h, sub_eq_add_neg, mul_neg]
    have e : (⟨((lane c d).val + 128 - 96) % 128, Nat.mod_lt _ (by decide)⟩ : Fin 128) = lane c ⟨d.val + 32, by omega⟩ := by
      ext; simp only [lane]; omega
    have e2 : (⟨d.val % 32, by omega⟩ : Fin 32) = ⟨d.val, h⟩ := by ext; simp only; omega
    rw [e, e2]
  · rw [dif_neg h, if_neg h, if_neg h]
    have e : (⟨((lane c d).val + 128 - 32) % 128, Nat.mod_lt _ (by decide)⟩ : Fin 128) = lane c ⟨d.val - 32, by omega⟩ := by
      ext; simp only [lane]; omega
    have e2 : (⟨d.val % 32, by omega⟩ : Fin 32) = ⟨d.val - 32, by omega⟩ := by ext; simp only; omega
    rw [e, e2]

end Cert.Attn

end
-- ==== Proof.Attn.Pieces.lean ====
module

public import proofs.«01_k».proof.Proof.Gen.KernelIdeal.Skeleton
public import proofs.«01_k».proof.Proof.Attn.Spec

@[expose] public section

set_option maxRecDepth 16384

noncomputable section

namespace Cert.KernelIdeal.Attn

open Cert.KernelIdeal Cert.KernelIdeal.Gen Idealize.ShloMosaic Cert.Attn

/-! ### The pieces of the key scratch are one function -/

section Same
variable {F : FTy → Type} [FloatOps F]
variable (g : Vec F S1x128 .f32) (x : Vec F S1x1x256x128 .bf16) (co si : Vec F S256x128 .f32)

/-- What a rope'd piece of keys is: the first of the eight pieces, over its own operands. -/
def ropePiece : FVec F S256x128 .bf16 :=
  k0_pay6 k0_pay31 k0_pay32 (k0_pay2 g) (k0_pay4 x) (k0_pay5 x) co si

theorem piece2 : k0_pay8 (k0_pay7 k0_pay31 k0_pay32 (k0_pay2 g) x co si) = ropePiece g x co si := rfl
theorem piece3 : k0_pay13 (k0_pay9 k0_pay31 (k0_pay2 g) x) (k0_pay10 co) (k0_pay11 si) (k0_pay12 k0_pay31 k0_pay32 (k0_pay2 g) x)
    = ropePiece g x co si := rfl
theorem piece4 : k0_pay17 k0_pay32 (k0_pay14 k0_pay31 (k0_pay2 g) x) (k0_pay15 co) (k0_pay16 si) 96#32 = ropePiece g x co si := rfl
theorem piece5 : k0_pay19 k0_pay32 (k0_pay18 k0_pay31 (k0_pay2 g) x) co si = ropePiece g x co si := rfl
theorem piece6 : k0_pay22 k0_pay32 (k0_pay2 g) (k0_pay20 x) (k0_pay21 k0_pay31 x) co si = ropePiece g x co si := rfl
theorem piece7 : k0_pay25 k0_pay32 (k0_pay2 g) (k0_pay23 x) (k0_pay24 k0_pay31 x) (Scalar.ofBits .f32 0x3C800000#32) co si
    = ropePiece g x co si := rfl
theorem piece8 : k0_pay33 (k0_pay2 g) (k0_pay26 x) (k0_pay28 k0_pay31 x) (k0_pay29 k0_pay31 x) (k0_pay30 k0_pay31) co si
    = ropePiece g x co si := rfl
end Same

/-! ### The payloads at an index -/

/-- The keys of the context: normalised, not turned. -/
theorem ctxPiece_apply (g : Vec Ideal S1x128 .f32) (x : Vec Ideal S1x1x256x128 .bf16) (r : Fin 256) (c : Fin 2) (d : Fin 64) :
    k0_pay3 k0_pay31 g x (ix2 r (lane c d))
      = normed (fun d => x (ix4 0 0 r (lane c d))) (fun d => g (ix2 0 (lane c d))) d := by
  unfold_payloads
  pointwise
  simp only [sel_comp]
  exact norm_lane (fun l => x (ix4 0 0 r l)) (fun l => g (ix2 0 l)) c d

/-- A turned piece of keys. -/
theorem ropePiece_apply (g : Vec Ideal S1x128 .f32) (x : Vec Ideal S1x1x256x128 .bf16) (co si : Vec Ideal S256x128 .f32)
    (co' si' : Fin 32 → EReal) (r : Fin 256) (c : Fin 2)
    (hco : ∀ d : Fin 64, co (ix2 r (lane c d)) = co' ⟨d.val % 32, by omega⟩)
    (hsi : ∀ d : Fin 64, si (ix2 r (lane c d)) = if d.val < 32 then -si' ⟨d.val % 32, by omega⟩ else si' ⟨d.val % 32, by omega⟩)
    (d : Fin 64) :
    ropePiece g x co si (ix2 r (lane c d))
      = roped (normed (fun d => x (ix4 0 0 r (lane c d))) (fun d => g (ix2 0 (lane c d)))) co' si' d := by
  unfold ropePiece
  unfold_payloads
  pointwise
  simp only [sel_comp, sel_half, sel_comp_mod]
  refine (rope_lane (normLanes (fun l => x (ix4 0 0 r l)) (fun l => g (ix2 0 l))) (fun l => co (ix2 r l)) (fun l => si (ix2 r l)) co' si' c hco hsi d).trans ?_
  congr 1
  funext d
  exact norm_lane (fun l => x (ix4 0 0 r l)) (fun l => g (ix2 0 l)) c d

/-- The turned and scaled queries. -/
theorem query_apply (g : Vec Ideal S1x128 .f32) (x : Vec Ideal S1x1x256x128 .bf16) (co si : Vec Ideal S256x128 .f32)
    (co' si' : Fin 32 → EReal) (r : Fin 256) (c : Fin 2)
    (hco : ∀ d : Fin 64, co (ix2 r (lane c d)) = co' ⟨d.val % 32, by omega⟩)
    (hsi : ∀ d : Fin 64, si (ix2 r (lane c d)) = if d.val < 32 then -si' ⟨d.val % 32, by omega⟩ else si' ⟨d.val % 32, by omega⟩)
    (d : Fin 64) :
    k0_pay37 k0_pay32 (k0_pay34 x) (k0_pay35 g) (k0_pay36 x) co si (ix2 r (lane c d))
      = roped (normed (fun d => x (ix4 0 0 r (lane c d))) (fun d => g (ix2 0 (lane c d)))) co' si' d * scale := by
  unfold_payloads
  pointwise
  simp only [sel_comp, sel_half, sel_comp_mod]
  congr 1
  refine (rope_lane (normLanes (fun l => x (ix4 0 0 r l)) (fun l => g (ix2 0 l))) (fun l => co (ix2 r l)) (fun l => si (ix2 r l)) co' si' c hco hsi d).trans ?_
  congr 1
  funext d
  exact norm_lane (fun l => x (ix4 0 0 r l)) (fun l => g (ix2 0 l)) c d

/-- The exponentials of the first component's scores, over the lanes of that component. -/
theorem exp0_apply (v12 : FVec Ideal S256x128 .f32) (v14 : FVec Ideal S1x128 .f32) (v38 : FVec Ideal S256x128 .f32) (co si : Vec Ideal S256x128 .f32)
    (kn : Vec Ideal S2304x128 .bf16) (r : Fin 256) (j : Fin 2304) :
    k0_pay38 k0_pay31 k0_pay32 v12 v14 v38 co si kn (ix2 r j)
      = expo (fun j => ∑ d, k0_pay37 k0_pay32 v12 v14 v38 co si (ix2 r (lane 0 d)) * kn (ix2 j (lane 0 d))) j := by
  unfold k0_pay38 k0_pay31
  pointwise
  simp only [sel_comp, ite_mul, mul_ite, zero_mul, mul_zero, sum_comp0 fun l => k0_pay37 k0_pay32 v12 v14 v38 co si (ix2 r l) * kn (ix2 _ l)]
  rfl

/-- The exponentials of the second component's scores. -/
theorem exp1_apply (v12 : FVec Ideal S256x128 .f32) (v14 : FVec Ideal S1x128 .f32) (v38 : FVec Ideal S256x128 .f32) (co si : Vec Ideal S256x128 .f32)
    (kn : Vec Ideal S2304x128 .bf16) (r : Fin 256) (j : Fin 2304) :
    k0_pay39 k0_pay31 k0_pay32 v12 v14 v38 co si kn (ix2 r j)
      = expo (fun j => ∑ d, k0_pay37 k0_pay32 v12 v14 v38 co si (ix2 r (lane 1 d)) * kn (ix2 j (lane 1 d))) j := by
  unfold k0_pay39 k0_pay31
  pointwise
  simp only [sel_comp, ite_mul, mul_ite, zero_mul, mul_zero, sum_comp1 fun l => k0_pay37 k0_pay32 v12 v14 v38 co si (ix2 r l) * kn (ix2 _ l)]
  rfl

/-- The weight of the second map from the padded rows. -/
def lamRows (la : Fin 8 → Fin 128 → EReal) : EReal :=
  Ideal.exp (∑ l, la 0 l * la 1 l) - Ideal.exp (∑ l, la 2 l * la 3 l) + lamInit

/-- The result block, from the exponentials. -/
theorem out_apply (e0 e1 : FVec Ideal S256x2304 .f32) (la : Vec Ideal S8x128 .f32) (v : Vec Ideal S1x1x2304x128 .bf16) (sg : Vec Ideal S1x128 .f32)
    (z : Fin 1) (r : Fin 256) (e : Fin 128) (s0 s1 : Fin 2304 → EReal) (h0 : ∀ j, IsReal (s0 j)) (h1 : ∀ j, IsReal (s1 j))
    (he0 : ∀ j, e0 (ix2 r j) = expo s0 j) (he1 : ∀ j, e1 (ix2 r j) = expo s1 j) :
    k0_pay1 (k0_pay41 e0 e1 (k0_pay40 la) v) sg (ix3 z r e)
      = headOut (mixed (lamRows fun i l => la (ix2 i l)) s0 s1 fun j e => v (ix4 0 0 j e)) (fun e => sg (ix2 0 e)) e := by
  unfold k0_pay1 k0_pay41 k0_pay40
  pointwise
  simp only [he0, he1, soft_eq s0 (by decide) h0, soft_eq s1 (by decide) h1]
  rfl

end Cert.KernelIdeal.Attn

end
-- ==== Proof.Attn.Tables.lean ====
module

public import proofs.«01_k».proof.Proof.Attn.Pieces
public import proofs.«01_k».proof.Proof.Gen.KernelIdeal.Value
public import Idealize.ShloMosaic.Lib.Pipeline.ValueKit
public import Idealize.ShloMosaic.Lib.StableHlo.ReadAt
public import Idealize.ShloMosaic.Lib.Pipeline.Covers
public import Idealize.ShloMosaic.Lib.Pipeline.ValueKit.Held
public import Idealize.ShloMosaic.Lib.Routing.OpsPair
public import Idealize.ShloMosaic.Lib.Routing.OpsSet

@[expose] public section

set_option maxRecDepth 16384

noncomputable section

namespace Cert.KernelIdeal.Attn

open Cert.KernelIdeal Cert.KernelIdeal.Gen Idealize.ShloMosaic Cert.Attn Idealize.ShloMosaic.TcCoe

variable (m : (ℓ : Loc nD τ sig) → Buf (Elt Ideal) ℓ)

/-- The cosine table the kernel reads: the 32 cosines of a position, four times side by side. -/
theorem cosTable (c : Dev nD) (r : Fin 2048) (l : Fin 128) :
    V m c main_v33 (ix2 r l) = Ideal.cos (angle r.val ⟨l.val % 32, Nat.mod_lt _ (by decide)⟩) := by
  unfold V
  after_reads_at
  after_reads_at
  rfl

/-- The signed sine table: minus the sines, then the sines, twice side by side. -/
theorem sinTable (c : Dev nD) (r : Fin 2048) (l : Fin 128) :
    V m c main_v38 (ix2 r l) = if l.val % 64 < 32 then -Ideal.sin (angle r.val ⟨l.val % 32, Nat.mod_lt _ (by decide)⟩)
      else Ideal.sin (angle r.val ⟨l.val % 32, Nat.mod_lt _ (by decide)⟩) := by
  unfold V
  after_reads_at
  after_reads_at
  after_reads_at
  by_cases h : l.val % 64 < 32
  · have e : l.val % 64 = l.val % 32 := by omega
    rw [dif_pos h, if_pos h, e]; rfl
  · have e : l.val % 64 - 32 = l.val % 32 := by omega
    rw [dif_neg h, if_neg h, e]; rfl

theorem qGain (c : Dev nD) (z : Fin 1) (l : Fin 128) :
    V m c main_v47 (ix2 z l) = m (c, Proc.tc.devRef main_arg3) (ix1 ⟨l.val % 64, Nat.mod_lt _ (by decide)⟩) := by
  unfold V
  after_reads_at

theorem kGain (c : Dev nD) (z : Fin 1) (l : Fin 128) :
    V m c main_v51 (ix2 z l) = m (c, Proc.tc.devRef main_arg4) (ix1 ⟨l.val % 64, Nat.mod_lt _ (by decide)⟩) := by
  unfold V
  after_reads_at

theorem subGain (c : Dev nD) (z : Fin 1) (l : Fin 128) : V m c main_v52 (ix2 z l) = m (c, Proc.tc.devRef main_arg9) (ix1 l) := by
  unfold V
  after_reads_at

/-- A 4×64 block set into the corner of an 8×128 array. -/
theorem corner_apply (x0 : S8x128.Idx → EReal) (idx : IVec S2 32) (u : S4x64.Idx → EReal) (hi : ∀ a : Fin 2, idx (ix1 a) = 0#32)
    (r : Fin 8) (l : Fin 128) :
    Host.scatter scatter_S8x128_S2_S4x64_01_n_01_0 (fun _ b => b) x0 idx u (ix2 r l)
      = if h : r.val < 4 ∧ l.val < 64 then u (ix2 ⟨r.val, h.1⟩ ⟨l.val, h.2⟩) else x0 (ix2 r l) := by
  have hi' : ∀ i : S2.Idx, idx i = 0#32 := fun i => by idx_vars i; exact hi _
  have h0 : ∀ (k : S4x64.Idx) (a : Fin 2), scatter_S8x128_S2_S4x64_01_n_01_0.start k idx a = 0 := by
    intro k a
    unfold ScatterDims.start
    split
    · rw [hi']; rfl
    · rfl
  have hk : ∀ k : S4x64.Idx, scatter_S8x128_S2_S4x64_01_n_01_0.resultIdx? k idx = some (ix2 r l) ↔ (k 0).val = r.val ∧ (k 1).val = l.val := by
    intro k
    refine (Routing.resultIdx?_ix2 (R := 8) (C := 128) _ k idx r l).trans ?_
    rw [h0, h0]
    have w0 : scatter_S8x128_S2_S4x64_01_n_01_0.window k 0 = (k 0).val := rfl
    have w1 : scatter_S8x128_S2_S4x64_01_n_01_0.window k 1 = (k 1).val := rfl
    rw [w0, w1]; omega
  split
  · rename_i h
    refine Routing.scatter_set_hit _ _ _ _ _ _ (fun k hk' => ?_) (ix2 ⟨r.val, h.1⟩ ⟨l.val, h.2⟩) ((hk _).mpr ⟨rfl, rfl⟩)
    have h1 := (hk k).mp hk'
    refine congrArg u (funext fun a => ?_)
    fin_cases a
    · exact Fin.ext h1.1
    · exact Fin.ext h1.2
  · rename_i h
    refine Routing.scatter_set_miss _ _ _ _ _ fun k hk' => h ?_
    have h1 := (hk k).mp hk'
    exact ⟨h1.1 ▸ (k 0).isLt, h1.2 ▸ (k 1).isLt⟩

/-- The padded rows: the four vectors in the corner, zero elsewhere. -/
theorem lamPad (c : Dev nD) (r : Fin 8) (l : Fin 128) : V m c main_v43 (ix2 r l)
    = if h : r.val < 4 ∧ l.val < 64 then
        (if r.val < 1 then m (c, Proc.tc.devRef main_arg5) (ix1 ⟨l.val, h.2⟩)
        else if r.val - 1 < 1 then m (c, Proc.tc.devRef main_arg6) (ix1 ⟨l.val, h.2⟩)
        else if r.val - 1 - 1 < 1 then m (c, Proc.tc.devRef main_arg7) (ix1 ⟨l.val, h.2⟩)
        else m (c, Proc.tc.devRef main_arg8) (ix1 ⟨l.val, h.2⟩))
      else (0 : EReal) := by
  unfold V
  after_reads_at
  refine (corner_apply _ _ _ (fun a => ?_) r l).trans ?_
  · fin_cases a
    · show concatenate _ _ _ _ (ix1 0) = _
      pointwise
      after_reads_at
    · show concatenate _ _ _ _ (ix1 1) = _
      pointwise
      after_reads_at
  pointwise
  after_reads_at
  rfl

/-- The weight from rows that hold a vector in their first 64 lanes and zero in the others. -/
theorem lamRows_of (la : Fin 8 → Fin 128 → EReal) (v : Fin 4 → Fin 64 → EReal)
    (h : ∀ (i : Fin 4) (l : Fin 128), la (Fin.castLE (by decide) i) l = if hl : l.val < 64 then v i ⟨l.val, hl⟩ else 0) :
    lamRows la = lam (v 0) (v 1) (v 2) (v 3) := by
  have hs : ∀ i j : Fin 4, ∑ l, la (Fin.castLE (by decide) i) l * la (Fin.castLE (by decide) j) l = ∑ d, v i d * v j d := fun i j => by
    rw [Fin.sum_univ_two_halves 64 64 rfl]
    simp [h]
  unfold lamRows lam
  rw [← hs 0 1, ← hs 2 3]; rfl

/-- The weight of the second map, from the padded rows. -/
theorem lamRows_eq (c : Dev nD) :
    lamRows (fun i l => V m c main_v43 (ix2 i l))
      = lam (fun d => m (c, Proc.tc.devRef main_arg5) (ix1 d)) (fun d => m (c, Proc.tc.devRef main_arg6) (ix1 d))
          (fun d => m (c, Proc.tc.devRef main_arg7) (ix1 d)) (fun d => m (c, Proc.tc.devRef main_arg8) (ix1 d)) := by
  refine lamRows_of _ ![fun d => m (c, Proc.tc.devRef main_arg5) (ix1 d), fun d => m (c, Proc.tc.devRef main_arg6) (ix1 d),
    fun d => m (c, Proc.tc.devRef main_arg7) (ix1 d), fun d => m (c, Proc.tc.devRef main_arg8) (ix1 d)] fun i l => ?_
  refine (lamPad m c _ l).trans ?_
  by_cases hl : l.val < 64
  · rw [dif_pos hl, dif_pos ⟨i.isLt, hl⟩]
    fin_cases i <;> rfl
  · rw [dif_neg hl, dif_neg fun h => hl h.2]

end Cert.KernelIdeal.Attn

end
-- ==== Proof.Attn.Keys.lean ====
module

public import proofs.«01_k».proof.Proof.Attn.Tables

@[expose] public section

set_option maxRecDepth 16384

noncomputable section

namespace Cert.KernelIdeal.Attn

open Cert.KernelIdeal Cert.KernelIdeal.Gen Idealize.ShloMosaic Cert.Attn Idealize.ShloMosaic.TcCoe

variable (m : (ℓ : Loc nD τ sig) → Buf (Elt Ideal) ℓ)

/-! ### Grid points and the blocks they are handed -/

/-- The batch entry of a grid point. -/
def bOf (t : Fin cfg0.N) : Fin 16 := ⟨t.val / 64, by have h : t.val < 1024 := lt_of_lt_of_eq t.isLt N_0; omega⟩
/-- The head of a grid point. -/
def hOf (t : Fin cfg0.N) : Fin 8 := ⟨t.val / 8 % 8, by omega⟩
/-- The query row of row `r` of a grid point's block. -/
def rowOf (t : Fin cfg0.N) (r : Fin 256) : Fin 2048 := ⟨t.val % 8 * 256 + r.val, by omega⟩

theorem idx0 : ∀ t : Fin cfg0.N, win0_0.index t 0 = t.val / 64 ∧ win0_0.index t 1 = t.val / 8 % 8 ∧ win0_0.index t 2 = t.val % 8 + 1
    ∧ win0_0.index t 3 = 0 := (by decide +kernel : ∀ t : Fin grid0.N, _)
theorem idx1 : ∀ t : Fin cfg0.N, win0_1.index t 0 = t.val / 64 ∧ win0_1.index t 1 = t.val / 8 % 8 ∧ win0_1.index t 2 = 0
    ∧ win0_1.index t 3 = 0 := (by decide +kernel : ∀ t : Fin grid0.N, _)
theorem idx2 : ∀ t : Fin cfg0.N, win0_2.index t 0 = t.val / 64 ∧ win0_2.index t 1 = t.val / 8 % 8 ∧ win0_2.index t 2 = 0
    ∧ win0_2.index t 3 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = t.val % 8 ∧ win0_5.index t 1 = 0 := (by decide +kernel : ∀ t : Fin grid0.N, _)
theorem idx6 : ∀ t : Fin cfg0.N, win0_6.index t 0 = t.val % 8 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)
theorem idx10 : ∀ t : Fin cfg0.N, win0_10.index t 0 = 0 ∧ win0_10.index t 1 = 0 := (by decide +kernel : ∀ t : Fin grid0.N, _)
theorem idx11 : ∀ t : Fin cfg0.N, win0_11.index t 0 = t.val / 64 ∧ win0_11.index t 1 = t.val % 8 ∧ win0_11.index t 2 = t.val / 8 % 8 :=
  (by decide +kernel : ∀ t : Fin grid0.N, _)

theorem qBlock (c : Dev nD) (t : Fin cfg0.N) (r : Fin 256) (l : Fin 128) :
    iblk m c 0 t (ix4 0 0 r l) = m (c, Proc.tc.devRef main_arg0) (ix4 (bOf t) (hOf t) ⟨(rowOf t r).val + 256, by omega⟩ l) := by
  rw [← V_main_arg0 m c]
  blk_ext [iblk, idx0 t, bOf, hOf, rowOf]

theorem kBlock (c : Dev nD) (t : Fin cfg0.N) (j : Fin 2304) (l : Fin 128) :
    iblk m c 1 t (ix4 0 0 j l) = m (c, Proc.tc.devRef main_arg1) (ix4 (bOf t) (hOf t) j l) := by
  rw [← V_main_arg1 m c]
  blk_ext [iblk, idx1 t, bOf, hOf]

theorem vBlock (c : Dev nD) (t : Fin cfg0.N) (j : Fin 2304) (l : Fin 128) :
    iblk m c 2 t (ix4 0 0 j l) = m (c, Proc.tc.devRef main_arg2) (ix4 (bOf t) (hOf t) j l) := by
  rw [← V_main_arg2 m c]
  blk_ext [iblk, idx2 t, bOf, hOf]

theorem qGainBlock (c : Dev nD) (t : Fin cfg0.N) (cc : Fin 2) (d : Fin 64) :
    iblk m c 3 t (ix2 0 (lane cc d)) = m (c, Proc.tc.devRef main_arg3) (ix1 d) := by
  have h : iblk m c 3 t (ix2 0 (lane cc d)) = V m c main_v47 (ix2 0 (lane cc d)) := by blk_ext [iblk, idx3 t]
  rw [h, qGain]
  congr 2; ext; simp only [lane]; omega

theorem kGainBlock (c : Dev nD) (t : Fin cfg0.N) (cc : Fin 2) (d : Fin 64) :
    iblk m c 4 t (ix2 0 (lane cc d)) = m (c, Proc.tc.devRef main_arg4) (ix1 d) := by
  have h : iblk m c 4 t (ix2 0 (lane cc d)) = V m c main_v51 (ix2 0 (lane cc d)) := by blk_ext [iblk, idx4 t]
  rw [h, kGain]
  congr 2; ext; simp only [lane]; omega

theorem subGainBlock (c : Dev nD) (t : Fin cfg0.N) (e : Fin 128) :
    iblk m c 10 t (ix2 0 e) = m (c, Proc.tc.devRef main_arg9) (ix1 e) := by
  have h : iblk m c 10 t (ix2 0 e) = V m c main_v52 (ix2 0 e) := by blk_ext [iblk, idx10 t]
  rw [h, subGain]

theorem lamBlock (c : Dev nD) (t : Fin cfg0.N) (i : Fin 8) (l : Fin 128) : iblk m c 9 t (ix2 i l) = V m c main_v43 (ix2 i l) := by
  blk_ext [iblk, idx9 t]

/-- A row of the cosine table, at the lanes of a component. -/
theorem cos_lane (c : Dev nD) (p : Fin 2048) (cc : Fin 2) (d : Fin 64) :
    V m c main_v33 (ix2 p (lane cc d)) = Ideal.cos (angle p.val ⟨d.val % 32, Nat.mod_lt _ (by decide)⟩) := by
  rw [cosTable]
  congr 3; simp only [lane]; omega

theorem sin_lane (c : Dev nD) (p : Fin 2048) (cc : Fin 2) (d : Fin 64) :
    V m c main_v38 (ix2 p (lane cc d)) = if d.val < 32 then -Ideal.sin (angle p.val ⟨d.val % 32, Nat.mod_lt _ (by decide)⟩)
      else Ideal.sin (angle p.val ⟨d.val % 32, Nat.mod_lt _ (by decide)⟩) := by
  rw [sinTable]
  have e : (lane cc d).val % 64 = d.val := by simp only [lane]; omega
  have e2 : (⟨(lane cc d).val % 32, Nat.mod_lt _ (by decide)⟩ : Fin 32) = ⟨d.val % 32, Nat.mod_lt _ (by decide)⟩ := by
    ext; simp only [lane]; omega
  rw [e, e2]

theorem cosBlock (c : Dev nD) (t : Fin cfg0.N) (r : Fin 256) (cc : Fin 2) (d : Fin 64) :
    iblk m c 5 t (ix2 r (lane cc d)) = Ideal.cos (angle (rowOf t r).val ⟨d.val % 32, Nat.mod_lt _ (by decide)⟩) := by
  rw [← cos_lane m c (rowOf t r) cc d]
  blk_ext [iblk, idx5 t, rowOf]

theorem sinBlock (c : Dev nD) (t : Fin cfg0.N) (r : Fin 256) (cc : Fin 2) (d : Fin 64) :
    iblk m c 6 t (ix2 r (lane cc d)) = if d.val < 32 then -Ideal.sin (angle (rowOf t r).val ⟨d.val % 32, Nat.mod_lt _ (by decide)⟩)
      else Ideal.sin (angle (rowOf t r).val ⟨d.val % 32, Nat.mod_lt _ (by decide)⟩) := by
  rw [← sin_lane m c (rowOf t r) cc d]
  blk_ext [iblk, idx6 t, rowOf]

theorem cosWhole (c : Dev nD) (t : Fin cfg0.N) (p : Fin 2048) (l : Fin 128) : iblk m c 7 t (ix2 p l) = V m c main_v33 (ix2 p l) := by
  blk_ext [iblk, idx7 t]

theorem sinWhole (c : Dev nD) (t : Fin cfg0.N) (p : Fin 2048) (l : Fin 128) : iblk m c 8 t (ix2 p l) = V m c main_v38 (ix2 p l) := by
  blk_ext [iblk, idx8 t]

/-! ### The key scratch -/

/-- The stored row of context keys. -/
theorem ctx_ld (k : Vec Ideal S1x1x2304x128 .bf16) (g : Vec Ideal S1x128 .f32) (ia) (x : S256x128.Idx) (j : Fin 2304) (cc : Fin 2) (d : Fin 64)
    (hx0 : j.val = (x 0).val) (hx1 : (lane cc d).val = (x 1).val) :
    k0_pay3 k0_pay31 g (View.ld k (Rect.unit (s := S1x1x2304x128) ![0, 0, 0, 0] ![1, 1, 256, 128] ia)) x
      = keyRow (fun d => k (ix4 0 0 j (lane cc d))) (fun d => g (ix2 0 (lane cc d))) j.val d := by
  obtain ⟨r, hr⟩ : ∃ r : Fin 256, r.val = (x 0).val := ⟨⟨(x 0).val, (x 0).isLt⟩, rfl⟩
  have hx : x = ix2 r (lane cc d) := by
    funext a; fin_cases a
    · exact Fin.ext hr.symm
    · exact Fin.ext hx1.symm
  have hk : ∀ l : Fin 128, View.ld k (Rect.unit (s := S1x1x2304x128) ![0, 0, 0, 0] ![1, 1, 256, 128] ia) (ix4 0 0 r l) = k (ix4 0 0 j l) := fun l =>
    View.ld_unit_apply_of _ _ _ _ _ _ fun a => by
      fin_cases a
      · rfl
      · rfl
      · show j.val = 0 + r.val; omega
      · show l.val = 0 + l.val; omega
  rw [hx, ctxPiece_apply]
  simp only [hk]
  have hj : j.val < 256 := by omega
  rw [keyRow, if_pos hj]

/-- A stored row of latent keys, in the piece that starts at row `a` of the keys and row `b` of the tables. -/
theorem rope_ld (k : Vec Ideal S1x1x2304x128 .bf16) (g : Vec Ideal S1x128 .f32) (co si : Vec Ideal S2048x128 .f32) (a b : Nat) (hab : a = b + 256)
    (ia) (ib) (hco : ∀ (p : Fin 2048) (cc : Fin 2) (d : Fin 64), co (ix2 p (lane cc d)) = Ideal.cos (angle p.val ⟨d.val % 32, Nat.mod_lt _ (by decide)⟩))
    (hsi : ∀ (p : Fin 2048) (cc : Fin 2) (d : Fin 64), si (ix2 p (lane cc d)) = if d.val < 32 then -Ideal.sin (angle p.val ⟨d.val % 32, Nat.mod_lt _ (by decide)⟩)
      else Ideal.sin (angle p.val ⟨d.val % 32, Nat.mod_lt _ (by decide)⟩))
    (x : S256x128.Idx) (j : Fin 2304) (cc : Fin 2) (d : Fin 64) (hx0 : j.val = a + (x 0).val) (hx1 : (lane cc d).val = (x 1).val) :
    ropePiece g (View.ld k (Rect.unit (s := S1x1x2304x128) ![0, 0, a, 0] ![1, 1, 256, 128] ia)) (View.ld co (Rect.unit (s := S2048x128) ![b, 0] ![256, 128] ib))
        (View.ld si (Rect.unit (s := S2048x128) ![b, 0] ![256, 128] ib)) x
      = keyRow (fun d => k (ix4 0 0 j (lane cc d))) (fun d => g (ix2 0 (lane cc d))) j.val d := by
  obtain ⟨r, hr⟩ : ∃ r : Fin 256, r.val = (x 0).val := ⟨⟨(x 0).val, (x 0).isLt⟩, rfl⟩
  have hx : x = ix2 r (lane cc d) := by
    funext a; fin_cases a
    · exact Fin.ext hr.symm
    · exact Fin.ext hx1.symm
  have hk : ∀ l : Fin 128, View.ld k (Rect.unit (s := S1x1x2304x128) ![0, 0, a, 0] ![1, 1, 256, 128] ia) (ix4 0 0 r l) = k (ix4 0 0 j l) := fun l =>
    View.ld_unit_apply_of _ _ _ _ _ _ fun i => by
      fin_cases i
      · rfl
      · rfl
      · show j.val = a + r.val; omega
      · show l.val = 0 + l.val; omega
  have hp : j.val - 256 < 2048 := by omega
  have ht : ∀ (T : Vec Ideal S2048x128 .f32) (l : Fin 128), View.ld T (Rect.unit (s := S2048x128) ![b, 0] ![256, 128] ib) (ix2 r l) = T (ix2 ⟨j.val - 256, hp⟩ l) := fun T l =>
    View.ld_unit_apply_of _ _ _ _ _ _ fun i => by
      fin_cases i
      · show j.val - 256 = b + r.val; omega
      · show l.val = 0 + l.val; omega
  rw [hx, ropePiece_apply g _ _ _ (fun f => Ideal.cos (angle (j.val - 256) f)) (fun f => Ideal.sin (angle (j.val - 256) f)) _ cc
    (fun d => (ht co _).trans (hco _ cc d)) (fun d => (ht si _).trans (hsi _ cc d))]
  simp only [hk]
  rw [keyRow, if_neg (by omega)]

/-- What the first point of a head's run stores in the key scratch. -/
theorem scratchA (c : Dev nD) (t : Fin cfg0.N) (h : t.val % 8 = 0) (j : Fin 2304) (cc : Fin 2) (d : Fin 64) :
    (outsAt0 m c t.val t.isLt).2 (ix2 j (lane cc d))
      = keyRow (fun d => iblk m c 1 t (ix4 0 0 j (lane cc d))) (fun d => iblk m c 4 t (ix2 0 (lane cc d))) j.val d := by
  have hco := fun (p : Fin 2048) cc d => (cosWhole m c t p (lane cc d)).trans (cos_lane m c p cc d)
  have hsi := fun (p : Fin 2048) cc d => (sinWhole m c t p (lane cc d)).trans (sin_lane m c p cc d)
  rw [outsAt0_A m c t h]
  frame_out
  canon_tiles x h
  · exact (congrFun (piece8 _ _ _ _) x).trans (rope_ld _ _ _ _ 2048 1792 rfl _ _ hco hsi x j cc d h0 h1)
  · exact (congrFun (piece7 _ _ _ _) x).trans (rope_ld _ _ _ _ 1792 1536 rfl _ _ hco hsi x j cc d h0 h1)
  · exact (congrFun (piece6 _ _ _ _) x).trans (rope_ld _ _ _ _ 1536 1280 rfl _ _ hco hsi x j cc d h0 h1)
  · exact (congrFun (piece5 _ _ _ _) x).trans (rope_ld _ _ _ _ 1280 1024 rfl _ _ hco hsi x j cc d h0 h1)
  · exact (congrFun (piece4 _ _ _ _) x).trans (rope_ld _ _ _ _ 1024 768 rfl _ _ hco hsi x j cc d h0 h1)
  · exact (congrFun (piece3 _ _ _ _) x).trans (rope_ld _ _ _ _ 768 512 rfl _ _ hco hsi x j cc d h0 h1)
  · exact (congrFun (piece2 _ _ _ _) x).trans (rope_ld _ _ _ _ 512 256 rfl _ _ hco hsi x j cc d h0 h1)
  · exact rope_ld _ _ _ _ 256 0 rfl _ _ hco hsi x j cc d h0 h1
  · exact ctx_ld _ _ _ x j cc d h0 h1

/-- The key row of a head, from the arrays. -/
def keyOf (c : Dev nD) (b : Fin 16) (h : Fin 8) (j : Fin 2304) (cc : Fin 2) : Fin 64 → EReal :=
  keyRow (fun d => m (c, Proc.tc.devRef main_arg1) (ix4 b h j (lane cc d))) (fun d => m (c, Proc.tc.devRef main_arg4) (ix1 d)) j.val

/-- What the key scratch holds after any point: the keys of that point's head. -/
theorem scratch_eq (c : Dev nD) (t : Fin cfg0.N) (j : Fin 2304) (cc : Fin 2) (d : Fin 64) :
    (outsAt0 m c t.val t.isLt).2 (ix2 j (lane cc d)) = keyOf m c (bOf t) (hOf t) j cc d := by
  have hw := Pipeline.eq_of_write_hold_apply (fun n h (i : Fin 2304 × Fin 2 × Fin 64) => (outsAt0 m c n h).2 (ix2 i.1 (lane i.2.1 i.2.2))) 8
    (fun t i => keyOf m c (bOf t) (hOf t) i.1 i.2.1 i.2.2)
    (fun t h i => by
      rw [scratchA m c t h]
      unfold keyOf
      simp only [kBlock, kGainBlock])
    (fun t h i => by rw [outsAt0_B m c t h]; rfl) t (j, cc, d)
  refine hw.trans ?_
  have e1 : bOf ⟨8 * (t.val / 8), Pipeline.run_start_lt t⟩ = bOf t := by ext; simp only [bOf]; omega
  have e2 : hOf ⟨8 * (t.val / 8), Pipeline.run_start_lt t⟩ = hOf t := by ext; simp only [hOf]; omega
  rw [e1, e2]

end Cert.KernelIdeal.Attn

end
-- ==== Proof.Attn.Out.lean ====
module

public import proofs.«01_k».proof.Proof.Attn.Keys
public import Idealize.ShloMosaic.Lib.Pipeline.ReadBack

@[expose] public section

set_option maxRecDepth 16384

noncomputable section

namespace Cert.KernelIdeal.Attn

open Cert.KernelIdeal Cert.KernelIdeal.Gen Idealize.ShloMosaic Cert.Attn Idealize.ShloMosaic.TcCoe

variable (m : (ℓ : Loc nD τ sig) → Buf (Elt Ideal) ℓ)

/-! ### The result of the attention, from the arrays -/

/-- The turned query row of a component. -/
def queryOf (c : Dev nD) (b : Fin 16) (h : Fin 8) (p : Fin 2048) (cc : Fin 2) : Fin 64 → EReal :=
  roped (normed (fun d => m (c, Proc.tc.devRef main_arg0) (ix4 b h ⟨p.val + 256, by omega⟩ (lane cc d)))
    (fun d => m (c, Proc.tc.devRef main_arg3) (ix1 d))) (fun f => Ideal.cos (angle p.val f)) (fun f => Ideal.sin (angle p.val f))

/-- The scores of a query row, over all the keys of its head. -/
def scoresOf (c : Dev nD) (b : Fin 16) (h : Fin 8) (p : Fin 2048) (cc : Fin 2) (j : Fin 2304) : EReal :=
  score (queryOf m c b h p cc) (keyOf m c b h j cc)

/-- The weight of the second map. -/
def lamOf (c : Dev nD) : EReal :=
  lam (fun d => m (c, Proc.tc.devRef main_arg5) (ix1 d)) (fun d => m (c, Proc.tc.devRef main_arg6) (ix1 d))
    (fun d => m (c, Proc.tc.devRef main_arg7) (ix1 d)) (fun d => m (c, Proc.tc.devRef main_arg8) (ix1 d))

/-- One entry of the attention's result. -/
def attnOf (c : Dev nD) (b : Fin 16) (h : Fin 8) (p : Fin 2048) (e : Fin 128) : EReal :=
  headOut (mixed (lamOf m c) (scoresOf m c b h p 0) (scoresOf m c b h p 1) fun j e => m (c, Proc.tc.devRef main_arg2) (ix4 b h j e))
    (fun e => m (c, Proc.tc.devRef main_arg9) (ix1 e)) e

/-- The gains are real numbers. -/
def RealGains (c : Dev nD) : Prop :=
  (∀ d, IsReal (m (c, Proc.tc.devRef main_arg3) (ix1 d))) ∧ ∀ d, IsReal (m (c, Proc.tc.devRef main_arg4) (ix1 d))

variable {m}

theorem queryOf_real {c : Dev nD} (hg : RealGains m c) (b h p cc d) : IsReal (queryOf m c b h p cc d) :=
  roped_real _ _ _ (normed_real _ _ hg.1) (fun f => cos_real _ f) (fun f => sin_real _ f) d

theorem keyOf_real {c : Dev nD} (hg : RealGains m c) (b h j cc d) : IsReal (keyOf m c b h j cc d) := by
  unfold keyOf keyRow
  split
  · exact normed_real _ _ hg.2 d
  · exact roped_real _ _ _ (normed_real _ _ hg.2) (fun f => cos_real _ f) (fun f => sin_real _ f) d

theorem scoresOf_real {c : Dev nD} (hg : RealGains m c) (b h p cc j) : IsReal (scoresOf m c b h p cc j) :=
  score_real _ _ (queryOf_real hg b h p cc) (keyOf_real hg b h j cc)

/-! ### The result block of a point -/

/-- The kernel's query entry is the turned query times the scale. -/
theorem query_point (c : Dev nD) (t : Fin cfg0.N) (r : Fin 256) (cc : Fin 2) (d : Fin 64) :
    k0_pay37 k0_pay32 (k0_pay34 (iblk m c 0 t)) (k0_pay35 (iblk m c 3 t)) (k0_pay36 (iblk m c 0 t)) (iblk m c 5 t) (iblk m c 6 t) (ix2 r (lane cc d))
      = queryOf m c (bOf t) (hOf t) (rowOf t r) cc d * scale := by
  refine (query_apply (iblk m c 3 t) (iblk m c 0 t) (iblk m c 5 t) (iblk m c 6 t) (fun f => Ideal.cos (angle (rowOf t r).val f))
    (fun f => Ideal.sin (angle (rowOf t r).val f)) r cc (fun d => cosBlock m c t r cc d) (fun d => sinBlock m c t r cc d) d).trans ?_
  unfold queryOf
  simp only [qBlock, qGainBlock]

/-- The result block, from any scratch that holds the keys of the head. -/
theorem out_point {c : Dev nD} (hg : RealGains m c) (t : Fin cfg0.N) (kn : Vec Ideal S2304x128 .bf16)
    (hkn : ∀ j cc d, kn (ix2 j (lane cc d)) = keyOf m c (bOf t) (hOf t) j cc d) (z : Fin 1) (r : Fin 256) (e : Fin 128) :
    k0_pay1 (k0_pay41
        (k0_pay38 k0_pay31 k0_pay32 (k0_pay34 (iblk m c 0 t)) (k0_pay35 (iblk m c 3 t)) (k0_pay36 (iblk m c 0 t)) (iblk m c 5 t) (iblk m c 6 t) kn)
        (k0_pay39 k0_pay31 k0_pay32 (k0_pay34 (iblk m c 0 t)) (k0_pay35 (iblk m c 3 t)) (k0_pay36 (iblk m c 0 t)) (iblk m c 5 t) (iblk m c 6 t) kn)
        (k0_pay40 (iblk m c 9 t)) (iblk m c 2 t)) (iblk m c 10 t) (ix3 z r e)
      = attnOf m c (bOf t) (hOf t) (rowOf t r) e := by
  have hs : ∀ cc : Fin 2, (fun j => ∑ d, k0_pay37 k0_pay32 (k0_pay34 (iblk m c 0 t)) (k0_pay35 (iblk m c 3 t)) (k0_pay36 (iblk m c 0 t)) (iblk m c 5 t) (iblk m c 6 t) (ix2 r (lane cc d)) * kn (ix2 j (lane cc d)))
      = scoresOf m c (bOf t) (hOf t) (rowOf t r) cc := fun cc => funext fun j => by
    rw [scoresOf, ← score_eq]
    exact Finset.sum_congr rfl fun d _ => congrArg₂ (· * ·) (query_point c t r cc d) (hkn j cc d)
  refine (out_apply _ _ _ _ _ z r e (scoresOf m c (bOf t) (hOf t) (rowOf t r) 0) (scoresOf m c (bOf t) (hOf t) (rowOf t r) 1)
    (scoresOf_real hg _ _ _ 0) (scoresOf_real hg _ _ _ 1) (fun j => (exp0_apply _ _ _ _ _ _ r j).trans (by rw [hs 0]))
    (fun j => (exp1_apply _ _ _ _ _ _ r j).trans (by rw [hs 1]))).trans ?_
  unfold attnOf lamOf
  rw [← lamRows_eq m c]
  simp only [vBlock, subGainBlock, lamBlock]

/-- What any point leaves in its result block. -/
theorem out_eq {c : Dev nD} (hg : RealGains m c) (t : Fin cfg0.N) (z : Fin 1) (r : Fin 256) (e : Fin 128) :
    (outsAt0 m c t.val t.isLt).1 (ix3 z r e) = attnOf m c (bOf t) (hOf t) (rowOf t r) e := by
  by_cases h : t.val % 8 = 0
  · have hk := scratch_eq m c t
    rw [outsAt0_A m c t h] at hk ⊢
    frame_out
    refine out_point hg t _ (fun j cc d => ?_) z r e
    refine Eq.trans ?_ (hk j cc d)
    symm
    frame_out
    rw [View.readCov_eq_canon']
    exact congrArg _ (Shape.idx_ext₂ (by simp) (by simp))
  · have hk : ∀ j cc d, (outsAt0 m c (t.val - 1) (lt_of_le_of_lt (Nat.sub_le _ _) t.isLt)).2 (ix2 j (lane cc d))
        = keyOf m c (bOf t) (hOf t) j cc d := fun j cc d => by
      rw [← scratch_eq m c t j cc d, outsAt0_B m c t h]
      rfl
    rw [outsAt0_B m c t h]
    frame_out
    simp only [read_unread_whole]
    exact out_point hg t _ hk z r e

end Cert.KernelIdeal.Attn

end
-- ==== Proof.Attn.Arr.lean ====
module

public import proofs.«01_k».proof.Proof.Attn.Out
public import proofs.«01_k».proof.Proof.Gen.KernelIdeal.Value

@[expose] public section

set_option maxRecDepth 16384

noncomputable section

namespace Cert.KernelIdeal.Attn

open Cert.KernelIdeal Cert.KernelIdeal.Gen Idealize.ShloMosaic Cert.Attn Idealize.ShloMosaic.TcCoe

variable {m : (ℓ : Loc nD τ sig) → Buf (Elt Ideal) ℓ}

/-- The result array: batch `b`, query row `p`, and in column `h * 128 + e` channel `e` of head `h`. -/
def attnArr (m : (ℓ : Loc nD τ sig) → Buf (Elt Ideal) ℓ) (c : Dev nD) : Vec Ideal S16x2048x1024 .bf16 := fun i =>
  attnOf m c ⟨(i 0).val, (i 0).isLt⟩ ⟨(i 2).val / 128, by have h : (i 2).val < 1024 := (i 2).isLt; omega⟩ ⟨(i 1).val, (i 1).isLt⟩
    ⟨(i 2).val % 128, by omega⟩

/-- The result at an index, from the index's coordinates. -/
theorem attnArr_at (m : (ℓ : Loc nD τ sig) → Buf (Elt Ideal) ℓ) (c : Dev nD) (i : S16x2048x1024.Idx) (b : Fin 16) (h : Fin 8) (p : Fin 2048) (e : Fin 128)
    (h0 : (i 0).val = b.val) (h1 : (i 1).val = p.val) (h2 : (i 2).val = h.val * 128 + e.val) : attnArr m c i = attnOf m c b h p e := by
  have hb : (⟨(i 0).val, (i 0).isLt⟩ : Fin 16) = b := Fin.ext h0
  have hp : (⟨(i 1).val, (i 1).isLt⟩ : Fin 2048) = p := Fin.ext h1
  have hh : (⟨(i 2).val / 128, by have h : (i 2).val < 1024 := (i 2).isLt; omega⟩ : Fin 8) = h := Fin.ext (by show (i 2).val / 128 = h.val; omega)
  have he : (⟨(i 2).val % 128, by omega⟩ : Fin 128) = e := Fin.ext (by show (i 2).val % 128 = e.val; omega)
  unfold attnArr
  rw [hb, hp, hh, he]

/-- The grid's blocks cover the result. -/
theorem covers11 : (cfg0.win 11).Covers :=
  (cfg0.win 11).covers_of_index_surj rfl (by decide) fun β => by
    have h0 : (β 0).val < 16 := lt_of_lt_of_eq (β 0).isLt (by decide : (cfg0.win 11).nblk 0 = 16)
    have h1 : (β 1).val < 8 := lt_of_lt_of_eq (β 1).isLt (by decide : (cfg0.win 11).nblk 1 = 8)
    have h2 : (β 2).val < 8 := lt_of_lt_of_eq (β 2).isLt (by decide : (cfg0.win 11).nblk 2 = 8)
    refine ⟨⟨(β 0).val * 64 + (β 2).val * 8 + (β 1).val, lt_of_lt_of_eq (by omega : _ < 1024) N_0.symm⟩, fun a => ?_⟩
    obtain ⟨e0, e1, e2⟩ := idx11 ⟨(β 0).val * 64 + (β 2).val * 8 + (β 1).val, lt_of_lt_of_eq (by omega : _ < 1024) N_0.symm⟩
    fin_cases a
    · exact e0.trans (by show ((β 0).val * 64 + (β 2).val * 8 + (β 1).val) / 64 = (β 0).val; omega)
    · exact e1.trans (by show ((β 0).val * 64 + (β 2).val * 8 + (β 1).val) % 8 = (β 1).val; omega)
    · exact e2.trans (by show ((β 0).val * 64 + (β 2).val * 8 + (β 1).val) / 8 % 8 = (β 2).val; omega)

/-- The array after the run is the attention's result. -/
theorem arr_eq {c : Dev nD} (hg : RealGains m c) : (dats m 0 c).arrAt 11 cfg0.N = attnArr m c := by
  refine (dats m 0 c).arrAt_eq_of_covers 11 _ covers11 fun t hf y => ?_
  blk_simp
  rw [after0_11]
  obtain ⟨z, r, e, rfl⟩ : ∃ (z : Fin 1) (r : Fin 256) (e : Fin 128), y = ix3 z r e := ⟨y 0, y 1, y 2, by funext a; fin_cases a <;> rfl⟩
  refine (out_eq hg t z r e).trans (attnArr_at m c _ _ _ _ _ ?_ ?_ ?_).symm
  · blk_simp [idx11 t, bOf]
  · blk_simp [idx11 t, rowOf]
  · blk_simp [idx11 t, hOf]

end Cert.KernelIdeal.Attn

end
-- ==== Proof.Attn.Ref.lean ====
module

public import proofs.«01_k».proof.Proof.Attn.Spec
public import proofs.«01_k».proof.Proof.Gen.ReferenceIdeal.Read
public import Idealize.ShloMosaic.Lib.IdealHost
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Cert.Attn Idealize.ShloMosaic.TcCoe

/-- Adding to a zero literal changes nothing. -/
theorem zero_lit_add (x : EReal) : Ideal.ofBits .f32 0x00000000#32 + x = x := by rw [Ideal.ofBits_zero_f32, zero_add]

/-- The reference's normalised queries. -/
theorem q_normed (x0 : Vec Ideal S16x8x2304x128 .bf16) (x3 : Vec Ideal S64 .f32) (b : Fin 16) (h : Fin 8) (n : Fin 2304) (cc : Fin 2) (d : Fin 64) :
    val_main_v16 (F := Ideal) x0 x3 (ix5 b h n cc d) = normed (fun d => x0 (ix4 b h n (lane cc d))) (fun d => x3 (ix1 d)) d := by
  unfold val_main_v16 val_main_v15 val_main_v14 val_main_v13 val_main_v12 val_main_v11 val_main_v10 val_main_v9 val_main_v8 val_main_v7 val_main_v6 val_main_v5 val_main_v4 val_main_v3 val_main_v0
  pointwise
  unfold normed meanSq
  refine congrArg (fun s => x0 (ix4 b h n (lane cc d)) * Ideal.rsqrt (Ideal.div s (Ideal.ofBits .f32 0x42800000#32) + eps) * x3 (ix1 d)) ?_
  exact zero_lit_add _

/-- The reference's normalised keys. -/
theorem k_normed (x1 : Vec Ideal S16x8x2304x128 .bf16) (x4 : Vec Ideal S64 .f32) (b : Fin 16) (h : Fin 8) (n : Fin 2304) (cc : Fin 2) (d : Fin 64) :
    val_main_v30 (F := Ideal) x1 x4 (ix5 b h n cc d) = normed (fun d => x1 (ix4 b h n (lane cc d))) (fun d => x4 (ix1 d)) d := by
  unfold val_main_v30 val_main_v29 val_main_v28 val_main_v27 val_main_v26 val_main_v25 val_main_v24 val_main_v23 val_main_v22 val_main_v21 val_main_v20 val_main_v19 val_main_v18 val_main_v17 val_main_v1
  pointwise
  unfold normed meanSq
  refine congrArg (fun s => x1 (ix4 b h n (lane cc d)) * Ideal.rsqrt (Ideal.div s (Ideal.ofBits .f32 0x42800000#32) + eps) * x4 (ix1 d)) ?_
  exact zero_lit_add _

/-- The reference's rotation angles. -/
theorem angle_at (p : Fin 2048) (f : Fin 32) : val_main_v54 (F := Ideal) (ix2 p f) = angle p.val f := by
  unfold val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31
  pointwise
  rfl

/-- The reference's turned queries. -/
theorem q_roped (x0 : Vec Ideal S16x8x2304x128 .bf16) (x3 : Vec Ideal S64 .f32) (b : Fin 16) (h : Fin 8) (p : Fin 2048) (cc : Fin 2) (d : Fin 64) :
    val_main_v76 (F := Ideal) x0 x3 (ix5 b h p cc d)
      = roped (normed (fun d => x0 (ix4 b h ⟨p.val + 256, by omega⟩ (lane cc d))) (fun d => x3 (ix1 d)))
          (fun f => Ideal.cos (angle p.val f)) (fun f => Ideal.sin (angle p.val f)) d := by
  unfold val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55
  pointwise
  simp only [q_normed, angle_at, Nat.add_comm 256, Nat.add_comm 32]
  unfold roped
  split
  · rfl
  · rename_i hd
    have e : d.val - 32 + 32 = d.val := by omega
    simp only [e]

/-- The reference's turned latent keys. -/
theorem k_roped (x1 : Vec Ideal S16x8x2304x128 .bf16) (x4 : Vec Ideal S64 .f32) (b : Fin 16) (h : Fin 8) (p : Fin 2048) (cc : Fin 2) (d : Fin 64) :
    val_main_v94 (F := Ideal) x1 x4 (ix5 b h p cc d)
      = roped (normed (fun d => x1 (ix4 b h ⟨p.val + 256, by omega⟩ (lane cc d))) (fun d => x4 (ix1 d)))
          (fun f => Ideal.cos (angle p.val f)) (fun f => Ideal.sin (angle p.val f)) d := by
  unfold val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v58 val_main_v57 val_main_v56 val_main_v55
  pointwise
  simp only [k_normed, angle_at, Nat.add_comm 256, Nat.add_comm 32]
  unfold roped
  split
  · rfl
  · rename_i hd
    have e : d.val - 32 + 32 = d.val := by omega
    simp only [e]

/-- The reference's keys: the context's rows as they are, the latent rows turned. -/
theorem k_all (x1 : Vec Ideal S16x8x2304x128 .bf16) (x4 : Vec Ideal S64 .f32) (b : Fin 16) (h : Fin 8) (j : Fin 2304) (cc : Fin 2) (d : Fin 64) :
    val_main_v96 (F := Ideal) x1 x4 (ix5 b h j cc d) = keyRow (fun d => x1 (ix4 b h j (lane cc d))) (fun d => x4 (ix1 d)) j.val d := by
  unfold val_main_v96 val_main_v95
  pointwise
  unfold keyRow
  simp only [k_normed, k_roped]
  split
  · rfl
  · rename_i hj
    have e : j.val - 256 + 256 = j.val := by omega
    simp only [e]

/-- The reference's scores. -/
theorem scores_at (x0 x1 : Vec Ideal S16x8x2304x128 .bf16) (x3 x4 : Vec Ideal S64 .f32) (b : Fin 16) (h : Fin 8) (cc : Fin 2) (p : Fin 2048) (j : Fin 2304) :
    val_main_v107 (F := Ideal) x0 x1 x3 x4 (ix5 b h cc p j)
      = score (fun d => val_main_v76 (F := Ideal) x0 x3 (ix5 b h p cc d)) (fun d => val_main_v96 (F := Ideal) x1 x4 (ix5 b h j cc d)) := by
  unfold val_main_v107 val_main_v106 val_main_v105
  pointwise
  rfl

/-- The largest score of a row. -/
theorem max_at (x0 x1 : Vec Ideal S16x8x2304x128 .bf16) (x3 x4 : Vec Ideal S64 .f32) (b : Fin 16) (h : Fin 8) (cc : Fin 2) (p : Fin 2048) :
    val_main_v108 (F := Ideal) x0 x1 x3 x4 (ix4 b h cc p) = rowMax (fun j => val_main_v107 (F := Ideal) x0 x1 x3 x4 (ix5 b h cc p j)) := by
  unfold val_main_v108
  generalize val_main_v107 (F := Ideal) x0 x1 x3 x4 = y
  pointwise
  rfl

/-- Minus infinity, over the rows. -/
theorem floor_at (b : Fin 16) (h : Fin 8) (cc : Fin 2) (p : Fin 2048) : val_main_v109 (F := Ideal) (ix4 b h cc p) = negInf := by
  unfold val_main_v109
  pointwise
  rfl

/-- The greater of two arrays at an index. -/
theorem greater_at (y z : Vec Ideal S16x8x2x2048 .f32) (i : S16x8x2x2048.Idx) :
    (maximumf (F := Ideal) (φ := .f32) y z i : EReal) = max (y i) (z i) := rfl

/-- The largest score of a row, held against minus infinity. -/
theorem max_at' (x0 x1 : Vec Ideal S16x8x2304x128 .bf16) (x3 x4 : Vec Ideal S64 .f32) (b : Fin 16) (h : Fin 8) (cc : Fin 2) (p : Fin 2048) :
    val_main_v110 (F := Ideal) x0 x1 x3 x4 (ix4 b h cc p) = rowMax (fun j => val_main_v107 (F := Ideal) x0 x1 x3 x4 (ix5 b h cc p j)) := by
  have hm := max_at x0 x1 x3 x4 b h cc p
  unfold val_main_v110
  refine (greater_at _ _ _).trans ?_
  rw [floor_at, hm, max_rowMax]

/-- The exponentials of the scores less the largest. -/
theorem exp_at (x0 x1 : Vec Ideal S16x8x2304x128 .bf16) (x3 x4 : Vec Ideal S64 .f32) (b : Fin 16) (h : Fin 8) (cc : Fin 2) (p : Fin 2048) (j : Fin 2304) :
    val_main_v114 (F := Ideal) x0 x1 x3 x4 (ix5 b h cc p j) = expo (fun j => val_main_v107 (F := Ideal) x0 x1 x3 x4 (ix5 b h cc p j)) j := by
  have hm := max_at' x0 x1 x3 x4 b h cc p
  unfold val_main_v114 val_main_v113 val_main_v112 val_main_v111
  generalize val_main_v110 (F := Ideal) x0 x1 x3 x4 = z at hm ⊢
  generalize val_main_v107 (F := Ideal) x0 x1 x3 x4 = y at hm ⊢
  pointwise
  rw [hm]
  rfl

/-- Their sum over a row. -/
theorem sum_at (x0 x1 : Vec Ideal S16x8x2304x128 .bf16) (x3 x4 : Vec Ideal S64 .f32) (b : Fin 16) (h : Fin 8) (cc : Fin 2) (p : Fin 2048) :
    val_main_v115 (F := Ideal) x0 x1 x3 x4 (ix4 b h cc p) = ∑ j, expo (fun j => val_main_v107 (F := Ideal) x0 x1 x3 x4 (ix5 b h cc p j)) j := by
  unfold val_main_v115
  simp only [← exp_at]
  generalize val_main_v114 (F := Ideal) x0 x1 x3 x4 = y
  pointwise
  exact zero_lit_add _

/-- The reference's attention weights are the softmax of its scores. -/
theorem soft_at (x0 x1 : Vec Ideal S16x8x2304x128 .bf16) (x3 x4 : Vec Ideal S64 .f32) (b : Fin 16) (h : Fin 8) (cc : Fin 2) (p : Fin 2048) (j : Fin 2304) :
    val_main_v118 (F := Ideal) x0 x1 x3 x4 (ix5 b h cc p j) = soft (fun j => val_main_v107 (F := Ideal) x0 x1 x3 x4 (ix5 b h cc p j)) j := by
  have he := exp_at x0 x1 x3 x4 b h cc p j
  have hs := sum_at x0 x1 x3 x4 b h cc p
  unfold val_main_v118 val_main_v117 val_main_v116
  generalize val_main_v114 (F := Ideal) x0 x1 x3 x4 = y at he ⊢
  generalize val_main_v115 (F := Ideal) x0 x1 x3 x4 = z at hs ⊢
  pointwise
  rw [he, hs]
  rfl

/-- The reference's weight of the second map. -/
theorem lam_at (x5 x6 x7 x8 : Vec Ideal S64 .f32) (i : S_.Idx) :
    val_main_v104 (F := Ideal) x5 x6 x7 x8 i = lam (fun d => x5 (ix1 d)) (fun d => x6 (ix1 d)) (fun d => x7 (ix1 d)) (fun d => x8 (ix1 d)) := by
  obtain rfl : i = ix0 := Subsingleton.elim _ _
  unfold val_main_v104 val_main_v103 val_main_v102 val_main_v101 val_main_v100 val_main_v99 val_main_v98 val_main_v97
  pointwise
  exact congrArg₂ (fun s t => Ideal.exp s - Ideal.exp t + lamInit) (zero_lit_add _) (zero_lit_add _)

/-- The first map, out of the two. -/
theorem first_at (x0 x1 : Vec Ideal S16x8x2304x128 .bf16) (x3 x4 : Vec Ideal S64 .f32) (b : Fin 16) (h : Fin 8) (p : Fin 2048) (j : Fin 2304) :
    val_main_v120 (F := Ideal) x0 x1 x3 x4 (ix4 b h p j) = val_main_v118 (F := Ideal) x0 x1 x3 x4 (ix5 b h 0 p j) := by
  unfold val_main_v120 val_main_v119
  generalize val_main_v118 (F := Ideal) x0 x1 x3 x4 = y
  pointwise

/-- The second map, out of the two. -/
theorem second_at (x0 x1 : Vec Ideal S16x8x2304x128 .bf16) (x3 x4 : Vec Ideal S64 .f32) (b : Fin 16) (h : Fin 8) (p : Fin 2048) (j : Fin 2304) :
    val_main_v122 (F := Ideal) x0 x1 x3 x4 (ix4 b h p j) = val_main_v118 (F := Ideal) x0 x1 x3 x4 (ix5 b h 1 p j) := by
  unfold val_main_v122 val_main_v121
  generalize val_main_v118 (F := Ideal) x0 x1 x3 x4 = y
  pointwise

/-- The weight of the second map, over the whole map. -/
theorem spread_at (x5 x6 x7 x8 : Vec Ideal S64 .f32) (i : S16x8x2048x2304.Idx) :
    val_main_v123 (F := Ideal) x5 x6 x7 x8 i = val_main_v104 (F := Ideal) x5 x6 x7 x8 ix0 := by
  unfold val_main_v123
  generalize val_main_v104 (F := Ideal) x5 x6 x7 x8 = z
  exact congrArg z (Subsingleton.elim _ _)

/-- One array less the product of two others, at an index. -/
theorem less_at (u w v : Vec Ideal S16x8x2048x2304 .f32) (i : S16x8x2048x2304.Idx) :
    (subf (F := Ideal) (φ := .f32) u (mulf (F := Ideal) (φ := .f32) w v) i : EReal) = u i - w i * v i := rfl

/-- The difference of the two maps. -/
theorem weights_at (x0 x1 : Vec Ideal S16x8x2304x128 .bf16) (x3 x4 x5 x6 x7 x8 : Vec Ideal S64 .f32) (b : Fin 16) (h : Fin 8) (p : Fin 2048) (j : Fin 2304) :
    val_main_v125 (F := Ideal) x0 x1 x3 x4 x5 x6 x7 x8 (ix4 b h p j)
      = val_main_v118 (F := Ideal) x0 x1 x3 x4 (ix5 b h 0 p j)
        - val_main_v104 (F := Ideal) x5 x6 x7 x8 ix0 * val_main_v118 (F := Ideal) x0 x1 x3 x4 (ix5 b h 1 p j) := by
  unfold val_main_v125 val_main_v124
  refine (less_at _ _ _ _).trans ?_
  rw [first_at, spread_at, second_at]

/-- The difference of the two maps applied to the values. -/
theorem applied_at (x0 x1 x2 : Vec Ideal S16x8x2304x128 .bf16) (x3 x4 x5 x6 x7 x8 : Vec Ideal S64 .f32) (b : Fin 16) (p : Fin 2048) (h : Fin 8) (e : Fin 128) :
    val_main_v127 (F := Ideal) x0 x1 x2 x3 x4 x5 x6 x7 x8 (ix4 b p h e)
      = ∑ j, x2 (ix4 b h j e) * val_main_v125 (F := Ideal) x0 x1 x3 x4 x5 x6 x7 x8 (ix4 b h p j) := by
  unfold val_main_v127 val_main_v126 val_main_v2
  generalize val_main_v125 (F := Ideal) x0 x1 x3 x4 x5 x6 x7 x8 = y
  pointwise

/-- The two maps applied to the values. -/
theorem mixed_at (x0 x1 x2 : Vec Ideal S16x8x2304x128 .bf16) (x3 x4 x5 x6 x7 x8 : Vec Ideal S64 .f32) (b : Fin 16) (p : Fin 2048) (h : Fin 8) (e : Fin 128) :
    val_main_v127 (F := Ideal) x0 x1 x2 x3 x4 x5 x6 x7 x8 (ix4 b p h e)
      = mixed (lam (fun d => x5 (ix1 d)) (fun d => x6 (ix1 d)) (fun d => x7 (ix1 d)) (fun d => x8 (ix1 d)))
          (fun j => val_main_v107 (F := Ideal) x0 x1 x3 x4 (ix5 b h 0 p j)) (fun j => val_main_v107 (F := Ideal) x0 x1 x3 x4 (ix5 b h 1 p j))
          (fun j e => x2 (ix4 b h j e)) e := by
  rw [applied_at]
  unfold mixed
  refine Finset.sum_congr rfl fun j _ => ?_
  rw [weights_at, soft_at, soft_at, lam_at]
  exact mul_comm _ _

/-- The reference's result of a head. -/
theorem out_at (x0 x1 x2 : Vec Ideal S16x8x2304x128 .bf16) (x3 x4 x5 x6 x7 x8 : Vec Ideal S64 .f32) (x9 : Vec Ideal S128 .f32) (b : Fin 16) (p : Fin 2048) (w : Fin 1024) :
    val_main_v144 (F := Ideal) x0 x1 x2 x3 x4 x5 x6 x7 x8 x9 (ix3 b p w)
      = headOut (fun e => val_main_v127 (F := Ideal) x0 x1 x2 x3 x4 x5 x6 x7 x8 (ix4 b p ⟨w.val / 128, by omega⟩ e)) (fun e => x9 (ix1 e))
          ⟨w.val % 128, by omega⟩ := by
  unfold val_main_v144 val_main_v143 val_main_v142 val_main_v141 val_main_v140 val_main_v139 val_main_v138 val_main_v137 val_main_v136 val_main_v135 val_main_v134 val_main_v133 val_main_v132 val_main_v131 val_main_v130 val_main_v129 val_main_v128
  generalize val_main_v127 (F := Ideal) x0 x1 x2 x3 x4 x5 x6 x7 x8 = o
  pointwise
  refine congrArg (fun s => o (ix4 b p ⟨w.val / 128, by omega⟩ ⟨w.val % 128, by omega⟩)
    * Ideal.rsqrt (Ideal.div s (Ideal.ofBits .f32 0x43000000#32) + eps) * x9 (ix1 ⟨w.val % 128, by omega⟩) * outScale) ?_
  exact zero_lit_add _

end Cert.ReferenceIdeal.Attn

end
-- ==== Proof.Attn.Claim.lean ====
module

public import proofs.«01_k».proof.Proof.Attn.Arr
public import proofs.«01_k».proof.Proof.Attn.Ref
public import proofs.«01_k».proof.Defs
public import Idealize.ShloMosaic.Adequacy
public import Idealize.ShloMosaic.Init

@[expose] public section

set_option maxRecDepth 16384

noncomputable section

namespace Cert.Attn

open Idealize.ShloMosaic Idealize.SL.Sem Idealize.ShloMosaic.TcCoe

/-- The one fact the precondition's text states. -/
theorem gains_facts : Cert.Pre_finite_gains.Facts := ⟨by decide⟩

/-- Two truth words whose conjunction holds both hold. -/
theorem both_of_and : ∀ a b : BitVec 1, a &&& b = 1#1 → a = 1#1 ∧ b = 1#1 := by decide

/-- The infinity literal. -/
theorem inf_lit : Ideal.ofBits .f32 0x7F800000#32 = ⊤ := by simp [Ideal.ofBits, Ideal.ieee]

/-- A value whose size compares below the infinity literal is a real number. -/
theorem real_of_lt (x : EReal) (h : FloatOps.cmpf (F := Ideal) (φ := .f32) .olt (FloatOps.hostAbsf (F := Ideal) (φ := .f32) x) (Ideal.ofBits .f32 0x7F800000#32) = 1#1) :
    IsReal x := by
  rw [inf_lit] at h
  induction x using EReal.rec with
  | bot => exact absurd (show Ideal.cmp .olt (max (⊥ : EReal) (-⊥)) ⊤ = 1#1 from h) (by simp [Ideal.cmp])
  | coe r => exact ⟨r, rfl⟩
  | top => exact absurd (show Ideal.cmp .olt (max (⊤ : EReal) (-⊤)) ⊤ = 1#1 from h) (by simp [Ideal.cmp])

/-- The precondition, read: both gains are real numbers. -/
theorem gains_real [Cert.Pre_finite_gains.Facts] (m : (ℓ : Loc Cert.KernelIdeal.nD Cert.KernelIdeal.τ Cert.KernelIdeal.sig) → Buf (Elt Ideal) ℓ)
    (h : Cert.Pre_KernelIdeal_finite_gains m) (c : Dev Cert.KernelIdeal.nD) : Cert.KernelIdeal.Attn.RealGains m c := by
  have hd := fun d : Fin 64 => both_of_and _ _ (congrFun (h c) (ix1 d))
  exact ⟨fun d => real_of_lt _ (hd d).1, fun d => real_of_lt _ (hd d).2⟩

/-- The reference's result, as the kernel's: the same function of the arrays. -/
theorem ref_eq (m : (ℓ : Loc Cert.KernelIdeal.nD Cert.KernelIdeal.τ Cert.KernelIdeal.sig) → Buf (Elt Ideal) ℓ) (c : Dev Cert.KernelIdeal.nD) :
    Cert.ReferenceIdeal.Read.val_main_v144 (F := Ideal) (m (c, Proc.tc.devRef Cert.KernelIdeal.main_arg0)) (m (c, Proc.tc.devRef Cert.KernelIdeal.main_arg1))
      (m (c, Proc.tc.devRef Cert.KernelIdeal.main_arg2)) (m (c, Proc.tc.devRef Cert.KernelIdeal.main_arg3)) (m (c, Proc.tc.devRef Cert.KernelIdeal.main_arg4))
      (m (c, Proc.tc.devRef Cert.KernelIdeal.main_arg5)) (m (c, Proc.tc.devRef Cert.KernelIdeal.main_arg6)) (m (c, Proc.tc.devRef Cert.KernelIdeal.main_arg7))
      (m (c, Proc.tc.devRef Cert.KernelIdeal.main_arg8)) (m (c, Proc.tc.devRef Cert.KernelIdeal.main_arg9)) = Cert.KernelIdeal.Attn.attnArr m c := by
  funext i
  obtain ⟨b, p, w, rfl⟩ : ∃ (b : Fin 16) (p : Fin 2048) (w : Fin 1024), i = ix3 b p w := ⟨i 0, i 1, i 2, by funext a; fin_cases a <;> rfl⟩
  rw [Cert.ReferenceIdeal.Attn.out_at]
  simp only [Cert.ReferenceIdeal.Attn.mixed_at, Cert.ReferenceIdeal.Attn.scores_at, Cert.ReferenceIdeal.Attn.q_roped, Cert.ReferenceIdeal.Attn.k_all]
  rfl

/-- The kernel and the reference end with the same result. -/
theorem algebraic [self : Cert.Pre_finite_gains.Facts] : Cert.algebraic_KernelIdeal_ReferenceIdeal_pre_finite_gains := by
  intro m ρ m' ρ' hpre hagree
  refine ⟨fun c => Cert.KernelIdeal.Attn.attnArr m c, ?_, ?_⟩
  · exact (θ_run Cert.KernelIdeal.defs _ _).mono
      (fun r h c => ⟨(h c).1.trans (Cert.KernelIdeal.Attn.arr_eq (gains_real m hpre c)), (h c).2⟩) (Cert.KernelIdeal.Value.run_blocks (F := Ideal) m ρ)
  · refine (θ_run Cert.ReferenceIdeal.defs _ _).mono (fun r h c => ⟨(h c).1.trans ?_, (h c).2⟩) (Cert.ReferenceIdeal.Value.run (F := Ideal) m' ρ')
    refine (Cert.ReferenceIdeal.Read.val_main_v144_eq _).trans (Eq.trans ?_ (ref_eq m c))
    obtain ⟨h0, h1, h2, h3, h4, h5, h6, h7, h8, h9⟩ := hagree c
    exact (congr (congr (congr (congr (congr (congr (congr (congr (congr (congrArg (Cert.ReferenceIdeal.Read.val_main_v144 (F := Ideal)) h0) h1) h2) h3) h4) h5) h6) h7) h8) h9)

end Cert.Attn

end
-- ==== Proof.Experts.RunI.lean ====
/- The experts' kernel body, run: at a grid point whose block is in use and is the first of its expert, at one whose block is
   in use and continues the expert before it, and at one whose block is not in use. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.ReadBack
public import Idealize.ShloMosaic.Lib.Pipeline.ValueKit
public import Idealize.ShloMosaic.Lib.Tactic
public import Idealize.ShloMosaic.Lib.WordCmp

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The three tables as the body is handed them. -/
abbrev expertTbl : Memref sig .tc .smem S608 .i32 := Memref.whole main_v11
abbrev firstTbl : Memref sig .tc .smem S608 .i32 := Memref.whole main_arg2
abbrev usedTbl : Memref sig .tc .smem S1 .i32 := Memref.whole main_arg3

/-- A table held at half the full share, which is enough to read it. -/
abbrev tblPt (c : Dev nD) {S : Shape} {e : EltTy} (M : Memref sig .tc .smem S e) (f : Buf (Elt F) (M.view.loc (c : Thread nD τ))) : sProp 𝕄 :=
  M.view.loc (c : Thread nD τ) ↦{fullShare.right} f

/-- A load of a whole buffer through the rectangle at offset zero reads the buffer's contents. -/
theorem readAt_whole {κ : Kind} {sp : Space} {S : Shape} {e : EltTy} {M : Memref sig κ sp S e} {off : Fin S.rank → Nat}
    (h0 : ∀ a, off a = 0) (inb : ∀ a, off a + S.size a ≤ S.size a) (f : M.view.ty.Contents (Elt F)) :
    M.view.readAt (Elt F) (Rect.unit off S.size inb).toLoadRect f = M.view.read (Elt F) f := by
  funext x
  rw [View.readAt_apply]
  congr 1
  funext a
  apply Fin.ext
  exact (Rect.idx_unit_val off S.size inb x a).trans (by rw [h0 a, Nat.zero_add])

/-- After a store of a whole buffer through that rectangle the buffer reads as what was stored. -/
theorem read_write_whole {κ : Kind} {sp : Space} {S : Shape} {e : EltTy} {M : Memref sig κ sp S e} {off : Fin S.rank → Nat}
    (h0 : ∀ a, off a = 0) (inb : ∀ a, off a + S.size a ≤ S.size a) (f : M.view.ty.Contents (Elt F)) (w : S.Idx → Elt F e) :
    M.view.read (Elt F) (M.view.writes (Elt F) f [⟨Rect.unit off S.size inb, w⟩]) = w := by
  rw [View.read_writes_eq_canon, View.canon_cons_unit_lit inb w [] h0]
  intro y
  refine ⟨_, List.mem_singleton_self _, ?_⟩
  have : (Rect.unit off S.size inb).emb y = y := by
    funext a; apply Fin.ext
    exact (Rect.idx_unit_val off S.size inb y a).trans (by rw [h0 a, Nat.zero_add])
  rw [← this]
  exact (Rect.unit off S.size inb).idx_mem y

theorem zero2 : ∀ a : Fin 2, (![0, 0] : Fin 2 → Nat) a = 0 := by decide
theorem zero3 : ∀ a : Fin 3, (![0, 0, 0] : Fin 3 → Nat) a = 0 := by decide

/-- The number of blocks in use, and whether block `i` is marked as its expert's first, off the tables. -/
abbrev usedAt (tu : S1.Idx → Elt F .i32) : BitVec 32 := tu (fun a => ⟨0, by fin_cases a; decide⟩)
abbrev firstAt (tf : S608.Idx → Elt F .i32) (i : grid0.Coords) : BitVec 32 := tf (fun a => match a with | ⟨0, _⟩ => i 0)

set_option maxHeartbeats 1000000 in
/-- A block not in use: its rows of the output are zeros. -/
theorem run_unused (c : Dev nD) (i : grid0.Coords) (arg4 : Memref sig .tc .vmem S256x1024 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1024x2048 .bf16) (harg10 : arg10.IsWhole) (arg11 : Memref sig .tc .vmem S1024x1024 .bf16) (harg11 : arg11.IsWhole)
    (tu : S1.Idx → Elt F .i32)
    (h1 : ¬ k0_cond1 i (usedAt tu) = 1#1) (h3 : k0_cond3 i (usedAt tu) = 1#1) (E : Set ℕ) (K : PUnit → sProp 𝕄) :
    iprop((∃ d, owns (c : Thread nD τ) arg9 fullShare d) ∗ tblPt c usedTbl tu
            ∗ (iprop(owns (c : Thread nD τ) arg9 fullShare k0_pay1 ∗ tblPt c usedTbl tu) -∗ K ⟨⟩))
          ⊢ wp frame (wpE (defs₀ (F := F)) Variants.none c none) E (cc0_experts i expertTbl (Memref.isWhole_whole _) firstTbl (Memref.isWhole_whole _) usedTbl (Memref.isWhole_whole _) arg4 harg4 arg5 harg5 arg6 harg6 arg7 harg7 arg8 harg8 arg9 harg9 arg10 harg10 arg11 harg11) K := by
  simp only [cc0_experts_eq_skeleton]; unfold cc0_experts_skel
  unfold owns
  iintro ⟨⟨%d5, %f5, -, H5⟩, HT2, Hk⟩
  sl_exec
  have e : run_unused.sl.r (F := F) tu = usedAt tu := by
    show tu _ = tu _
    congr 1; funext a; fin_cases a; rfl
  have h1' := h1; have h3' := h3
  rw [← e] at h1' h3'
  sl_exec
  sl_step
  iapply Hk
  isplitl [H5]
  · iexists _; isplitr
    swap; · iexact H5
    ipureintro; exact read_write_whole zero2 _ _ _
  iexact HT2

/-- The word the body branches on when it asks whether block `i` is its expert's first. -/
theorem first_word (w : BitVec 32) : Scalar.cmpi .ne (Scalar.extui (Scalar.cmpi .eq w 1#32)) 0#32 = 1#1 ↔ w = 1#32 := by
  by_cases h : w = 1#32
  · subst h; decide
  · refine iff_of_false ?_ h
    have : Scalar.cmpi .eq w 1#32 = 0#1 := by
      show BitVec.ofBool (w == 1#32) = 0#1
      rw [beq_eq_false_iff_ne.mpr h]; rfl
    rw [this]; decide

theorem off2_zero (i : grid0.Coords) : k0_off2 i 0 = (i 0).val := by
  have h : (i 0).val < 608 := (i 0).isLt
  exact (BitVec.toNat_ofNat _ _).trans (Nat.mod_eq_of_lt (by omega))

/-- The offset at which the body reads block `i`'s entry of a table. -/
theorem table_idx (i : grid0.Coords) (x : (Rect.unit (s := S608) (k0_off2 i) S1.size (k0_off2_inb i)).shape.Idx) :
    ((Rect.unit (s := S608) (k0_off2 i) S1.size (k0_off2_inb i)).idx x 0).val = (i 0).val := by
  have hx : (x 0).val < 1 := (x 0).isLt
  rw [Rect.idx_unit_val, off2_zero]; omega

theorem pay4_congr {a a' : Vec F S256x1024 .f32} {b b' : Vec F S1024x2048 .bf16} {c c' : Vec F S1x1x2048 .f32} {d d' : Vec F S1024x1024 .bf16}
    {e e' : Vec F S1x1x1024 .f32} (ha : a = a') (hb : b = b') (hc : c = c') (hd : d = d') (he : e = e') : k0_pay4 a b c d e = k0_pay4 a' b' c' d' e' := by
  rw [ha, hb, hc, hd, he]

/-- What a scratch buffer holds once the body has run at a block in use: the block's own expert's weights, if it is that
    expert's first, else what it held. -/
abbrev weights (w : BitVec 32) {S : Shape} (new old : FVec F S .bf16) : FVec F S .bf16 := if w = 1#32 then new else old

set_option maxHeartbeats 1000000 in
/-- A block in use: its expert's weights are cast into the two scratch buffers where it is that expert's first, and its rows
    of the output are computed from the scratch buffers. -/
theorem run_used (c : Dev nD) (i : grid0.Coords) (arg4 : Memref sig .tc .vmem S256x1024 .f32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S256x1024 .f32) (harg9 : arg9.IsWhole) (arg10 : Memref sig .tc .vmem S1024x2048 .bf16) (harg10 : arg10.IsWhole) (arg11 : Memref sig .tc .vmem S1024x1024 .bf16) (harg11 : arg11.IsWhole)
    (x0 : Vec F S256x1024 .f32) (x1 : Vec F S1x1024x2048 .f32) (x2 : Vec F S1x1x2048 .f32) (x3 : Vec F S1x1024x1024 .f32) (x4 : Vec F S1x1x1024 .f32)
    (s0 : FVec F S1024x2048 .bf16) (s1 : FVec F S1024x1024 .bf16)
    (tf : S608.Idx → Elt F .i32) (tu : S1.Idx → Elt F .i32)
    (h1 : k0_cond1 i (usedAt tu) = 1#1) (h3 : ¬ k0_cond3 i (usedAt tu) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare s0 ∗ owns (c : Thread nD τ) arg11 fullShare s1 ∗ tblPt c firstTbl tf ∗ tblPt c usedTbl tu
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay4 x0 (weights (firstAt tf i) (k0_pay2 x1) s0) x2 (weights (firstAt tf i) (k0_pay3 x3) s1) x4)
              ∗ owns (c : Thread nD τ) arg10 fullShare (weights (firstAt tf i) (k0_pay2 x1) s0) ∗ owns (c : Thread nD τ) arg11 fullShare (weights (firstAt tf i) (k0_pay3 x3) s1) ∗ tblPt c firstTbl tf ∗ tblPt c usedTbl tu) -∗ K ⟨⟩))
          ⊢ wp frame (wpE (defs₀ (F := F)) Variants.none c none) E (cc0_experts i expertTbl (Memref.isWhole_whole _) firstTbl (Memref.isWhole_whole _) usedTbl (Memref.isWhole_whole _) arg4 harg4 arg5 harg5 arg6 harg6 arg7 harg7 arg8 harg8 arg9 harg9 arg10 harg10 arg11 harg11) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT1, HT2, Hk⟩
  obtain rfl := harg4.eq_unread hf0; obtain rfl := harg5.eq_unread hf1; obtain rfl := harg6.eq_unread hf2; obtain rfl := harg7.eq_unread hf3; obtain rfl := harg8.eq_unread hf4
  obtain rfl := harg10.eq_unread hs0; obtain rfl := harg11.eq_unread hs1
  sl_exec
  have e : run_used.sl.r (F := F) tu = usedAt tu := by
    show tu _ = tu _
    congr 1; funext a; fin_cases a; rfl
  have h1' := h1; have h3' := h3
  rw [← e] at h1' h3'
  have eW : (run_used.sl.v12 (F := F) i tf = 1#1) ↔ firstAt tf i = 1#32 := by
    have e9 : run_used.sl.r_1 (F := F) i tf = firstAt tf i := by
      show tf _ = tf _
      congr 1; funext a; fin_cases a
      exact Fin.ext (table_idx i _)
    rw [← first_word, ← e9]; rfl
  have eS0 : arg10.view.read (Elt F) (if hc : run_used.sl.v12 (F := F) i tf = 1#1 then arg10.view.writes (Elt F) (harg10.unread s0) [⟨Rect.unit ![0, 0] S1024x2048.size inb_S1024x2048_S1024x2048_0_0, k0_pay2 (arg5.view.readAt (Elt F) (Rect.unit ![0, 0, 0] S1x1024x2048.size inb_S1x1024x2048_S1x1024x2048_0_0_0).toLoadRect (harg5.unread x1))⟩] else harg10.unread s0)
      = weights (firstAt tf i) (k0_pay2 x1) s0 := by
    by_cases hc : firstAt tf i = 1#32
    · rw [dif_pos (eW.mpr hc), weights, if_pos hc]
      refine (read_write_whole zero2 _ _ _).trans (congrArg k0_pay2 ((readAt_whole zero3 _ _).trans (harg5.read_unread _)))
    · rw [dif_neg (mt eW.mp hc), weights, if_neg hc]; exact harg10.read_unread _
  have eS1 : arg11.view.read (Elt F) (if hc : run_used.sl.v12 (F := F) i tf = 1#1 then arg11.view.writes (Elt F) (harg11.unread s1) [⟨Rect.unit ![0, 0] S1024x1024.size inb_S1024x1024_S1024x1024_0_0, k0_pay3 (arg7.view.readAt (Elt F) (Rect.unit ![0, 0, 0] S1x1024x1024.size inb_S1x1024x1024_S1x1024x1024_0_0_0).toLoadRect (harg7.unread x3))⟩] else harg11.unread s1)
      = weights (firstAt tf i) (k0_pay3 x3) s1 := by
    by_cases hc : firstAt tf i = 1#32
    · rw [dif_pos (eW.mpr hc), weights, if_pos hc]
      refine (read_write_whole zero2 _ _ _).trans (congrArg k0_pay3 ((readAt_whole zero3 _ _).trans (harg7.read_unread _)))
    · rw [dif_neg (mt eW.mp hc), weights, if_neg hc]; exact harg11.read_unread _
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro
    rw [dif_neg h3', dif_pos h1']
    refine (read_write_whole zero2 _ _ _).trans ?_
    exact pay4_congr ((readAt_whole zero2 _ _).trans (harg4.read_unread _)) ((readAt_whole zero2 _ _).trans eS0)
      ((readAt_whole zero3 _ _).trans (harg6.read_unread _)) ((readAt_whole zero2 _ _).trans eS1) ((readAt_whole zero3 _ _).trans (harg8.read_unread _))
  isplitl [HS0]
  · iexists _; isplitr
    swap; · iexact HS0
    ipureintro
    rw [dif_pos h1']; exact eS0
  isplitl [HS1]
  · iexists _; isplitr
    swap; · iexact HS1
    ipureintro
    rw [dif_pos h1']; exact eS1
  isplitl [HT1]; · iexact HT1
  iexact HT2

end Cert.Kernel2Ideal.Experts

end
-- ==== Proof.Experts.FrameI.lean ====
/- The experts' launch: what each grid point leaves in the output's block and in the two scratch buffers that carry an expert's
   cast weights from one of its blocks to the next, and the frame: every argument ends unchanged. -/
module

public import proofs.«01_k».proof.Proof.Experts.RunI
public import Idealize.ShloMosaic.Lib.Claim

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp 𝕄) = iprop(tblPt c expertTbl (tbl m 0) ∗ tblPt c firstTbl (tbl m 1) ∗ tblPt c usedTbl (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 1).trans (((dats 0 c).arrAt_in 1 rfl _).trans ((hA c 1).trans (V_main_arg4 m c))),
      ((h c).2 main_arg5 (by decide : main_arg5 ∈ Pipeline.restRefs sig spec0)).trans (V_main_arg5 m c),
      ((h c).1 3).trans (((dats 0 c).arrAt_in 3 rfl _).trans ((hA c 3).trans (V_main_arg6 m c))),
      ((h c).2 main_arg7 (by decide : main_arg7 ∈ Pipeline.restRefs sig spec0)).trans (V_main_arg7 m c)⟩) h

/-- Each window's current staging memref at point `t`, spelled as the pipeline passes it (`bodyAt0`), and its wholeness. -/
abbrev ms0_0 (hO : Ok m) (t : Fin (cfgM m hO).N) : Memref sig .tc .vmem S256x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Window 5 (result 0 (%14)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_v11) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## What the points leave -/

/-- Block `t` is in use. -/
abbrev IsUsed (t : Fin grid0.N) : Prop := k0_cond1 (grid0.coords t) (usedAt (tbl m 2)) = 1#1

/-- What the body leaves in the output's staging buffer at block `t`. -/
def outsAt0 (hO : Ok m) (c : Dev nD) (t : Fin (cfgM m hO).N) : Vec F S256x1024 .f32 :=
  if IsUsed m t then k0_pay4 (iblk m hO c 0 t) (k0_pay2 (iblk m hO c 1 t)) (iblk m hO c 2 t) (k0_pay3 (iblk m hO c 3 t)) (iblk m hO c 4 t)
  else k0_pay1

/-- A block in use that is not marked as its expert's first follows a block in use of the same expert. -/
def Continues (hO : Ok m) : Prop := ∀ t : Fin (cfgM m hO).N, IsUsed m t → firstAt (tbl m 1) (grid0.coords t) ≠ 1#32 →
  ∃ s : Fin (cfgM m hO).N, s.val + 1 = t.val ∧ IsUsed m s ∧ ∀ c, iblk m hO c 1 t = iblk m hO c 1 s ∧ iblk m hO c 3 t = iblk m hO c 3 s

/-- Before point `n` the scratch buffers hold the cast weights of the block before it, if that is in use. -/
def Carried (hO : Ok m) (c : Dev nD) (n : ℕ) (d0 : FVec F S1024x2048 .bf16) (d1 : FVec F S1024x1024 .bf16) : Prop :=
  ∀ s : Fin (cfgM m hO).N, s.val + 1 = n → IsUsed m s → d0 = k0_pay2 (iblk m hO c 1 s) ∧ d1 = k0_pay3 (iblk m hO c 3 s)

/-- The invariant before point `n`. -/
def PhiS (hO : Ok m) (c : Dev nD) (n : ℕ) : sProp 𝕄 :=
  iprop((∃ d0, ∃ d1, ⌜Carried m hO c n d0 d1⌝ ∗ owns (c : Thread nD τ) scM0_0 fullShare d0 ∗ owns (c : Thread nD τ) scM0_1 fullShare d1)
    ∗ (∃ r, prngReg c r) ∗ Pipeline.ΦT pre0 (tbl m) c)

/-- The two conditions the body asks of the number of blocks in use exclude each other, and one of them holds. -/
theorem cond3_iff (i : grid0.Coords) (w : BitVec 32) : k0_cond3 i w = 1#1 ↔ ¬ k0_cond1 i w = 1#1 := by
  have h1 : k0_cond1 i w = 1#1 ↔ (BitVec.ofNat 32 (i 0).val).slt w = true := by
    show Scalar.cmpi .ne (Scalar.extui (BitVec.ofBool ((BitVec.ofNat 32 (i 0).val).slt w))) 0#32 = 1#1 ↔ _
    cases (BitVec.ofNat 32 (i 0).val).slt w <;> decide
  have h3 : k0_cond3 i w = 1#1 ↔ w.sle (BitVec.ofNat 32 (i 0).val) = true := by
    show Scalar.cmpi .ne (Scalar.extui (BitVec.ofBool (w.sle (BitVec.ofNat 32 (i 0).val)))) 0#32 = 1#1 ↔ _
    cases w.sle (BitVec.ofNat 32 (i 0).val) <;> decide
  rw [h1, h3, BitVec.slt, BitVec.sle, decide_eq_true_iff, decide_eq_true_iff, Int.not_lt]

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ t := PhiS m hO c t.val
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: at a block in use the run of `run_used`, whose scratch buffers end with the block's own expert's cast
    weights, cast there or carried from the block before; at a block not in use that of `run_unused`. -/
theorem sound_body (hO : Ok m) (hC : Continues m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.castSucc = PhiS m hO c t.val from rfl, show (dats m hO 0 c).Φ t.succ = PhiS m hO c (t.val + 1) from rfl]
  unfold PhiS
  rw [PhiT0_eq]
  iintro ⟨⟨⟨%s0, %s1, %hs, HS0, HS1⟩, Hg, HT0, HT1, HT2⟩, Ho, ⟨%d0, H0⟩, ⟨%d1, H1⟩, ⟨%d2, H2⟩, ⟨%d3, H3⟩, ⟨%d4, H4⟩, ⟨%d5, H5⟩⟩
  by_cases h1 : IsUsed m t
  · have hw : weights (firstAt (tbl m 1) (grid0.coords t)) (k0_pay2 (iblk m hO c 1 t)) s0 = k0_pay2 (iblk m hO c 1 t)
        ∧ weights (firstAt (tbl m 1) (grid0.coords t)) (k0_pay3 (iblk m hO c 3 t)) s1 = k0_pay3 (iblk m hO c 3 t) := by
      by_cases hf : firstAt (tbl m 1) (grid0.coords t) = 1#32
      · exact ⟨if_pos hf, if_pos hf⟩
      · obtain ⟨s, hst, hsu, he⟩ := hC t h1 hf
        obtain ⟨e0, e1⟩ := hs s hst hsu
        exact ⟨(if_neg hf).trans (by rw [e0, (he c).1]), (if_neg hf).trans (by rw [e1, (he c).2])⟩
    rw [show outsAt0 m hO c t = k0_pay4 (iblk m hO c 0 t) (k0_pay2 (iblk m hO c 1 t)) (iblk m hO c 2 t) (k0_pay3 (iblk m hO c 3 t)) (iblk m hO c 4 t) from if_pos h1]
    iapply (run_used c (grid0.coords t) _ _ _ _ _ _ _ _ _ _ _ _ _ _ _ _ (iblk m hO c 0 t) (iblk m hO c 1 t) (iblk m hO c 2 t) (iblk m hO c 3 t) (iblk m hO c 4 t)
      s0 s1 (tbl m 1) (tbl m 2) h1 (fun h => (cond3_iff _ _).mp h h1) Set.univ _)
    rw [hw.1, hw.2]
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT1]; · iexact HT1
    isplitl [HT2]; · iexact HT2
    iintro ⟨H0, H1, H2, H3, H4, H5, HS0, HS1, HT1, HT2⟩
    isplitl [HS0 HS1 Hg HT0 HT1 HT2]
    · isplitl [HS0 HS1]
      · iexists _; iexists _; isplitr
        swap
        · isplitl [HS0]; · iexact HS0
          iexact HS1
        ipureintro
        intro s hst hsu
        obtain rfl : s = t := Fin.ext (Nat.succ.inj hst)
        exact ⟨rfl, rfl⟩
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5
  · rw [show outsAt0 m hO c t = k0_pay1 from if_neg h1]
    iapply (run_unused c (grid0.coords t) _ _ _ _ _ _ _ _ _ _ _ _ _ _ _ _ (tbl m 2) h1 ((cond3_iff _ _).mpr h1) Set.univ _)
    isplitl [H5]; · iexists _; iexact H5
    isplitl [HT2]; · iexact HT2
    iintro ⟨H5, HT2⟩
    isplitl [HS0 HS1 Hg HT0 HT1 HT2]
    · isplitl [HS0 HS1]
      · iexists _; iexists _; isplitr
        swap
        · isplitl [HS0]; · iexact HS0
          iexact HS1
        ipureintro
        intro s hst hsu
        obtain rfl : s = t := Fin.ext (Nat.succ.inj hst)
        exact absurd hsu h1
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation of a pipeline whose idle points are all written back, off the triple that leaves every window at what the
    body leaves there. -/
theorem obligation_of {cfg : Cfg sig Λ₀} {c : Dev nD} (dat : Dat τ (Elt F) Unit ℕ (UR sig nD τ) ℕ cfg c)
    (hi : ∀ w t, cfg.idle w (cfg.grid.coords t) = true → (cfg.win w).flush t = true)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ (F := F) .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t =>
  triple_restated (h t) rfl .rfl fun _ => sep_mono .rfl (sep_mono .rfl (bigSep_mono fun w _ => by
    have hw := hi w t
    dsimp only
    cases e : cfg.idle w (cfg.grid.coords t)
    · exact fun _ hx => hx
    · rw [hw e]; exact fun _ hx => hx))

/-- The library's body obligation, at every point. -/
theorem body_obligation (hO : Ok m) (hC : Continues m hO) (c : Dev nD) : BodyObligation (dats (F := F) m hO 0 c) (defs₀ (F := F)) Variants.none () Set.univ := by
  refine obligation_of _ (fun w t => ?_) fun t => ?_
  · match w with
    | ⟨0, _⟩ => exact fun h => Bool.noConfusion h
    | ⟨1, _⟩ => exact fun h => Bool.noConfusion h
    | ⟨2, _⟩ => exact fun h => Bool.noConfusion h
    | ⟨3, _⟩ => exact fun h => Bool.noConfusion h
    | ⟨4, _⟩ => exact fun h => Bool.noConfusion h
    | ⟨5, _⟩ => exact fun _ => flush0_5 (adm m hO) t
  rw [bigSep_W0, bigSep_W0, defs₀_row m hO]
  exact triple_restated (sound_body m hO hC c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl]
  unfold PhiS
  rw [PhiA0_eq]
  iintro ⟨⟨⟨⟨%d0, HS0⟩, ⟨%d1, HS1⟩⟩, Hg⟩, HT⟩
  isplitl [HS0 HS1]
  · iexists _; iexists _; isplitr
    swap
    · isplitl [HS0]; · iexact HS0
      iexact HS1
    ipureintro
    intro s hs
    exact absurd hs (Nat.succ_ne_zero _)
  isplitl [Hg]; · iexact Hg
  iexact HT

/-- After the last point the invariant gives the scratch buffers back at some contents. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl]
  unfold PhiS
  rw [PhiA0_eq]
  iintro ⟨⟨%d0, %d1, -, HS0, HS1⟩, Hg, -⟩
  isplitl [HS0 HS1]
  · isplitl [HS0]; · iexists _; iexact HS0
    iexists _; iexact HS1
  iexact Hg

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hC : Continues m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hC c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hC : Continues m hO) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hC)

/-- `frame` without the counters: the argument arrays end unchanged. -/
theorem unchanged (hO : Ok m) (hC : Continues m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO hC)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`; here for every contents of the PREFETCHED TABLES, UNDER `Gen.Ok m` (the pipeline's side condition of
    them), which Proof.lean proves from the precondition: `⟨…, fun m ρ h => Cert.Kernel2Ideal.Gen.frame m ρ (ok_of_pre m h)⟩`. -/
theorem frame (hO : Ok m) (hC : Continues m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hC) ((θ_run defs _ _).mono (fun _ h => h.2) (run_main_quiescent m ρ hO hC))

end Cert.Kernel2Ideal.Experts

end
-- ==== Proof.Experts.Sorted.lean ====
/- What the experts' precondition says of the three tables: a block's expert is one of the 32, a block in use that is not marked as
   its expert's first has the expert of the block before it, and at least one block is in use. -/
module

public import proofs.«01_k».proof.Pre_sorted_blocks
public import Idealize.ShloMosaic.Lib.StableHlo.Predicate
public import Idealize.ShloMosaic.Lib.Pointwise
public import Idealize.ShloMosaic.Lib.ValueIdx

@[expose] public section

noncomputable section

namespace Cert.Experts

open Idealize.ShloMosaic

/-- The tables are as the routing makes them. -/
structure Sorted (E Fst : IVec (⟨1, ![608]⟩ : Shape) 32) (U : IVec (⟨1, ![1]⟩ : Shape) 32) : Prop where
  expert_lt : ∀ p : Fin 608, (E (ix1 p)).toNat < 32
  continues : ∀ p : Fin 608, p.val < (U (ix1 0)).toNat → Fst (ix1 p) ≠ 1#32 → ∃ q : Fin 608, q.val + 1 = p.val ∧ E (ix1 p) = E (ix1 q)
  used_pos : 1 ≤ (U (ix1 0)).toNat ∧ (U (ix1 0)).toNat < 2 ^ 31

/-- A word that is at least zero and less than 32, read signed. -/
theorem word_lt (w : BitVec 32) (h0 : IntOp.cmpi .sge w 0#32 = 1#1) (h1 : IntOp.cmpi .slt w 32#32 = 1#1) : w.toNat < 32 := by
  simp only [IntOp.cmpi, StableHlo.Predicate.ofBool_eq_one_iff, BitVec.slt, BitVec.sle, decide_eq_true_eq, BitVec.toInt_eq_toNat_cond] at h0 h1
  have a : (0#32 : BitVec 32).toNat = 0 := rfl
  have b : (32#32 : BitVec 32).toNat = 32 := rfl
  rw [a] at h0; rw [b] at h1
  split_ifs at h0 h1 <;> omega

/-- A word that is at least one, read signed. -/
theorem word_pos (w : BitVec 32) (h0 : IntOp.cmpi .sge w 1#32 = 1#1) : 1 ≤ w.toNat ∧ w.toNat < 2 ^ 31 := by
  simp only [IntOp.cmpi, StableHlo.Predicate.ofBool_eq_one_iff, BitVec.sle, decide_eq_true_eq, BitVec.toInt_eq_toNat_cond] at h0
  have a : (1#32 : BitVec 32).toNat = 1 := rfl
  rw [a] at h0
  split_ifs at h0 <;> omega

/-- The precondition, read. -/
theorem sorted_of_pre {F : FTy → Type} [FloatOps F] [Cert.Pre_sorted_blocks.Facts] (x0 : FVec F Pre_sorted_blocks.S155648x1024 .f32)
    (E Fst : IVec Pre_sorted_blocks.S608 32) (U : IVec Pre_sorted_blocks.S1 32)
    (x4 : FVec F Pre_sorted_blocks.S32x1024x2048 .f32) (x5 : FVec F Pre_sorted_blocks.S32x2048 .f32) (x6 : FVec F Pre_sorted_blocks.S32x1024x1024 .f32) (x7 : FVec F Pre_sorted_blocks.S32x1024 .f32)
    (h : (Pre_sorted_blocks.fn x0 E Fst U x4 x5 x6 x7).1 = fun _ => 1#1)
    (h' : (Pre_sorted_blocks.fn x0 E Fst U x4 x5 x6 x7).2.1 = fun _ => 1#1)
    (h'' : (Pre_sorted_blocks.fn x0 E Fst U x4 x5 x6 x7).2.2.1 = fun _ => 1#1)
    (h''' : (Pre_sorted_blocks.fn x0 E Fst U x4 x5 x6 x7).2.2.2 = fun _ => 1#1) : Sorted E Fst U := by
  have hlt : ∀ p : Fin 608, (E (ix1 p)).toNat < 32 := fun p =>
    word_lt _ (congrFun h (ix1 p)) (congrFun h' (ix1 p))
  have hu := word_pos _ (congrFun h''' (ix1 0))
  refine ⟨hlt, fun p hlt' hp => ?_, hu⟩
  have e := congrFun h'' (ix1 p)
  unfold Pre_sorted_blocks.fn at e
  pointwise at e
  have or_one : ∀ a b : BitVec 1, IntOp.ori a b = 1#1 → a = 1#1 ∨ b = 1#1 := by decide
  have eq_of : ∀ a b : BitVec 32, IntOp.cmpi .eq a b = 1#1 → a = b := fun a b h => by
    simpa [IntOp.cmpi, StableHlo.Predicate.ofBool_eq_one_iff] using h
  have unused : IntOp.cmpi .sge (BitVec.ofNat 32 p.val) (U (ix1 0)) ≠ 1#1 := fun h => by
    have hp := p.isLt
    have hi : (U (ix1 0)).toInt = ((U (ix1 0)).toNat : Int) := BitVec.toInt_eq_toNat_of_lt (by omega)
    simp only [IntOp.cmpi, StableHlo.Predicate.ofBool_eq_one_iff, BitVec.sle, decide_eq_true_eq, StableHlo.Predicate.toInt_ofNat_small _ (show p.val < 2 ^ 31 by omega),
      hi] at h
    omega
  rcases or_one _ _ ((or_one _ _ e).resolve_right unused) with e | e
  · have e := eq_of _ _ e
    by_cases h0 : p.val < 1
    · rw [dif_pos h0] at e
      exact absurd (hlt p) (by rw [e]; decide)
    · rw [dif_neg h0] at e
      exact ⟨⟨p.val - 1, by omega⟩, by simp only []; omega, e⟩
  · exact absurd (eq_of _ _ e) hp

/-- The block the tables are read at: the point's own, or the last one in use. -/
theorem word_min (p : Fin 608) (u : BitVec 32) (h : 1 ≤ u.toNat ∧ u.toNat < 2 ^ 31) :
    IntOp.minsi (BitVec.ofNat 32 p.val) (IntOp.subi u 1#32) = BitVec.ofNat 32 (min p.val (u.toNat - 1)) := by
  have hs : (IntOp.subi u 1#32) = BitVec.ofNat 32 (u.toNat - 1) := by
    apply BitVec.eq_of_toNat_eq
    simp only [IntOp.subi, BitVec.toNat_sub, BitVec.toNat_ofNat]
    omega
  have hp := p.isLt
  rw [hs]
  unfold IntOp.minsi
  simp only [BitVec.sle, BitVec.slt, decide_eq_true_eq, StableHlo.Predicate.toInt_ofNat_small _ (show p.val < 2 ^ 31 by omega),
    StableHlo.Predicate.toInt_ofNat_small _ (show u.toNat - 1 < 2 ^ 31 by omega)]
  split_ifs <;> congr 1 <;> omega

/-- The host's spelling of that block's number. -/
theorem word_block (p : Fin 608) (u : BitVec 32) (h : 1 ≤ u.toNat ∧ u.toNat < 2 ^ 31) :
    (if IntOp.cmpi .slt (IntOp.minsi (BitVec.ofNat 32 p.val) (IntOp.subi u 1#32)) 0#32 = 1#1 then
      IntOp.addi (IntOp.minsi (BitVec.ofNat 32 p.val) (IntOp.subi u 1#32)) 608#32
      else IntOp.minsi (BitVec.ofNat 32 p.val) (IntOp.subi u 1#32)).toInt.toNat = min p.val (u.toNat - 1) := by
  rw [word_min p u h]
  have hp := p.isLt
  have hi := StableHlo.Predicate.toInt_ofNat_small (min p.val (u.toNat - 1)) (by omega)
  rw [if_neg, hi]
  · omega
  · simp only [IntOp.cmpi, StableHlo.Predicate.ofBool_eq_one_iff, BitVec.slt, decide_eq_true_eq, hi]
    simp

end Cert.Experts

end
-- ==== Proof.Experts.TablesI.lean ====
/- The experts' kernel: what its tables hold when they are as the routing makes them, and the blocks its windows read there. -/
module

public import proofs.«01_k».proof.Proof.Experts.FrameI
public import proofs.«01_k».proof.Proof.Experts.Sorted
public import Idealize.ShloMosaic.Lib.StableHlo.ReadAt
public import Idealize.ShloMosaic.Lib.Pipeline.ValueKit

@[expose] public section

set_option maxRecDepth 16384

noncomputable section

namespace Cert.Kernel2Ideal.Experts

open Idealize.ShloMosaic Idealize.ShloMosaic.TcCoe
open Cert.Kernel2Ideal.Gen Cert.Experts

variable {F : FTy → Type} [FloatOps F]

variable (m : (ℓ : Loc nD τ sig) → Buf (Elt F) ℓ)

/-- The arguments that are tables: a block's expert, whether it is its expert's first, and how many blocks are in use. -/
abbrev argE : IVec (⟨1, ![608]⟩ : Shape) 32 := m ((0 : Dev nD), Proc.tc.devRef main_arg1)
abbrev argF : IVec (⟨1, ![608]⟩ : Shape) 32 := m ((0 : Dev nD), Proc.tc.devRef main_arg2)
abbrev argU : IVec (⟨1, ![1]⟩ : Shape) 32 := m ((0 : Dev nD), Proc.tc.devRef main_arg3)

/-- How many blocks are in use. -/
abbrev nUsed : Nat := (argU m (Idealize.ShloMosaic.ix1 (0 : Fin 1))).toNat

/-- The block whose rows and weights point `p` reads: itself, or the last one in use. -/
abbrev blk (p : Fin 608) : Fin 608 := ⟨min p.val (nUsed m - 1), by have := p.isLt; omega⟩

/-- The expert whose weights point `p` reads. -/
abbrev expertOf (p : Fin 608) : Nat := (argE m (Idealize.ShloMosaic.ix1 (blk m p))).toNat

variable (hS : Sorted (argE m) (argF m) (argU m))

/-- The host's gather, at an index that lies in the table. -/
theorem gather_at (x : IVec S608 32) (idx : IVec S608x1 32) (p q : Fin 608) (h : (idx (Idealize.ShloMosaic.ix2 p 0)).toInt.toNat = q.val) :
    Host.gather gather_S608_S608x1_S608_n_0_n_n_0_1_1 x idx (Idealize.ShloMosaic.ix1 p) = x (Idealize.ShloMosaic.ix1 q) := by
  have e1 : ∀ r : Fin 608, (Idealize.ShloMosaic.ix1 r : S608.Idx) = Shape.Idx.ofFin r := fun r => by funext a; fin_cases a; rfl
  have e2 : (StableHlo.Predicate.ixP p : S608x1.Idx) = Idealize.ShloMosaic.ix2 p 0 := by funext a; fin_cases a <;> rfl
  rw [e1 p, e1 q, StableHlo.Predicate.gather_take gather_S608_S608x1_S608_n_0_n_n_0_1_1 rfl rfl rfl rfl x idx p (by decide)]
  congr 2
  apply Fin.ext
  show min _ _ = q.val
  rw [e2, h]
  have := q.isLt
  omega

/-- The host's table: block `p`'s expert, or the last used block's. -/
theorem table_read (hS : Sorted (argE m) (argF m) (argU m)) (p : Fin 608) :
    V m (0 : Dev nD) main_v11 (Idealize.ShloMosaic.ix1 p) = argE m (Idealize.ShloMosaic.ix1 (blk m p)) := by
  have hw := word_block p _ hS.used_pos
  unfold V
  after_reads_at
  refine gather_at _ _ p (blk m p) ((congrArg (fun w : BitVec 32 => w.toInt.toNat) ?_).trans hw)
  pointwise
  rfl

theorem table_one : (tbl m 1 : IVec (⟨1, ![608]⟩ : Shape) 32) = argF m := V_main_arg2 m 0
theorem table_two : (tbl m 2 : IVec (⟨1, ![1]⟩ : Shape) 32) = argU m := V_main_arg3 m 0

/-- The entry of the first table that point `i`'s index maps load. -/
theorem entry (hS : Sorted (argE m) (argF m) (argU m)) (i : grid0.Coords) :
    (tbl m).at 0 (Rect.unit (s := S608) ![(Scalar.indexCast (BitVec.ofNat 32 (i 0).val)).toNat] S1.size (k0_off1_inb i)) numel1_S1
      = argE m (Idealize.ShloMosaic.ix1 (blk m (i 0))) := by
  rw [← table_read m hS (i 0)]
  have e : (Rect.unit (s := S608) ![(Scalar.indexCast (BitVec.ofNat 32 (i 0).val)).toNat] S1.size (k0_off1_inb i)).emb (Shape.Idx.first (numel1_S1.symm ▸ Nat.one_pos))
      = Idealize.ShloMosaic.ix1 (i 0) := by
    funext a
    obtain rfl : a = (0 : Fin 1) := Subsingleton.elim (α := Fin 1) _ _
    apply Fin.ext
    refine (Rect.idx_unit_val _ _ _ _ _).trans ?_
    exact (Nat.add_eq_left.mpr rfl).trans (off2_zero i)
  exact congrArg (V m (0 : Dev nD) main_v11) e

/-- The word that holds how many blocks are in use, as an index map loads it. -/
theorem entry_used : (tbl m).at 2 (Rect.unit (s := S1) ![0] S1.size inb_S1_S1_0) numel1_S1 = argU m (Idealize.ShloMosaic.ix1 0) := by
  rw [← table_two m]
  have e : (Rect.unit (s := S1) ![0] S1.size inb_S1_S1_0).emb (Shape.Idx.first (numel1_S1.symm ▸ Nat.one_pos)) = (Idealize.ShloMosaic.ix1 0 : S1.Idx) :=
    funext fun a => by
      obtain rfl : a = (0 : Fin 1) := Subsingleton.elim (α := Fin 1) _ _
      exact Subsingleton.elim (α := Fin 1) _ _
  exact congrArg (tbl m 2) e

/-! ## The blocks the windows read -/

theorem map_rows (hS : Sorted (argE m) (argF m) (argU m)) (i : grid0.Coords) :
    cc0_transform_0 inb_S1_S1_0 numel1_S1 (tbl m) i = ![(blk m (i 0)).val, 0] := by
  have e := entry_used m
  unfold cc0_transform_0
  rw [e]
  have hp : (i 0).val < 608 := (i 0).isLt
  have h := word_min (i 0) _ hS.used_pos
  have h' : (Scalar.minsi (BitVec.ofNat 32 (i 0).val) (Scalar.subi (argU m (Idealize.ShloMosaic.ix1 0)) 1#32)).toNat = (blk m (i 0)).val := by
    refine (congrArg BitVec.toNat h).trans ?_
    rw [BitVec.toNat_ofNat]
    have := (blk m (i 0)).isLt
    exact Nat.mod_eq_of_lt (by omega)
  exact congrArg (fun n : Nat => (![n, 0] : Fin 2 → Nat)) h'

theorem map_one (hS : Sorted (argE m) (argF m) (argU m)) (i : grid0.Coords) :
    cc0_transform_1 k0_off1_inb numel1_S1 (tbl m) i = ![expertOf m (i 0), 0, 0] := by
  have e := entry m hS i
  unfold cc0_transform_1
  exact congrArg (fun w : BitVec 32 => (![w.toNat, 0, 0] : Fin 3 → Nat)) e
theorem map_two (hS : Sorted (argE m) (argF m) (argU m)) (i : grid0.Coords) :
    cc0_transform_2 k0_off1_inb numel1_S1 (tbl m) i = ![expertOf m (i 0), 0, 0] := map_one m hS i
theorem map_three (hS : Sorted (argE m) (argF m) (argU m)) (i : grid0.Coords) :
    cc0_transform_3 k0_off1_inb numel1_S1 (tbl m) i = ![expertOf m (i 0), 0, 0] := map_one m hS i
theorem map_four (hS : Sorted (argE m) (argF m) (argU m)) (i : grid0.Coords) :
    cc0_transform_4 k0_off1_inb numel1_S1 (tbl m) i = ![expertOf m (i 0), 0, 0] := map_one m hS i

theorem expertOf_lt (hS : Sorted (argE m) (argF m) (argU m)) (p : Fin 608) : expertOf m p < 32 := hS.expert_lt _

/-- Every block a window reads lies in its array. -/
theorem ok (hS : Sorted (argE m) (argF m) (argU m)) : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩,
    fun i => ⟨fun a => ?_, Or.inl rfl⟩⟩
  · have := (blk m (i 0)).isLt
    rw [map_rows m hS i]
    fin_cases a
    · show ((blk m (i 0)).val + 1) * 256 ≤ 155648; omega
    · show (0 + 1) * 1024 ≤ 1024; omega
  · have := expertOf_lt m hS (i 0)
    rw [map_one m hS i]
    fin_cases a
    · show (expertOf m (i 0) + 1) * 1 ≤ 32; omega
    · show (0 + 1) * 1024 ≤ 1024; omega
    · show (0 + 1) * 2048 ≤ 2048; omega
  · have := expertOf_lt m hS (i 0)
    rw [map_two m hS i]
    fin_cases a
    · show (expertOf m (i 0) + 1) * 1 ≤ 32; omega
    · show (0 + 1) * 1 ≤ 1; omega
    · show (0 + 1) * 2048 ≤ 2048; omega
  · have := expertOf_lt m hS (i 0)
    rw [map_three m hS i]
    fin_cases a
    · show (expertOf m (i 0) + 1) * 1 ≤ 32; omega
    · show (0 + 1) * 1024 ≤ 1024; omega
    · show (0 + 1) * 1024 ≤ 1024; omega
  · have := expertOf_lt m hS (i 0)
    rw [map_four m hS i]
    fin_cases a
    · show (expertOf m (i 0) + 1) * 1 ≤ 32; omega
    · show (0 + 1) * 1 ≤ 1; omega
    · show (0 + 1) * 1024 ≤ 1024; omega

/-- A grid point's coordinate is its number. -/
theorem coord_val (t : Fin grid0.N) : (grid0.coords t 0).val = t.val := by
  revert t; decide

/-- Block `t` is in use when its number is less than how many are. -/
theorem isUsed_iff (hS : Sorted (argE m) (argF m) (argU m)) (t : Fin grid0.N) : IsUsed m t ↔ (grid0.coords t 0).val < nUsed m := by
  have h1 : k0_cond1 (grid0.coords t) (usedAt (tbl m 2)) = 1#1 ↔ (BitVec.ofNat 32 (grid0.coords t 0).val).slt (usedAt (tbl m 2)) = true := by
    show Scalar.cmpi .ne (Scalar.extui (BitVec.ofBool ((BitVec.ofNat 32 (grid0.coords t 0).val).slt (usedAt (tbl m 2))))) 0#32 = 1#1 ↔ _
    cases (BitVec.ofNat 32 (grid0.coords t 0).val).slt (usedAt (tbl m 2)) <;> decide
  have e : usedAt (tbl m 2) = argU m (Idealize.ShloMosaic.ix1 0) := by
    rw [← table_two m]
    unfold usedAt
    refine congrArg (tbl m 2) ?_
    funext a
    obtain rfl : a = (0 : Fin 1) := Subsingleton.elim (α := Fin 1) _ _
    exact Subsingleton.elim (α := Fin 1) _ _
  have hu := hS.used_pos
  have hp : (grid0.coords t 0).val < 608 := (grid0.coords t 0).isLt
  refine h1.trans ?_
  rw [e, BitVec.slt, decide_eq_true_iff, StableHlo.Predicate.toInt_ofNat_small _ (by omega), BitVec.toInt_eq_toNat_cond, if_pos (by omega)]
  exact Nat.cast_lt

/-- A used block reads its own rows and its own expert's weights. -/
theorem blk_used (hS : Sorted (argE m) (argF m) (argU m)) (t : Fin grid0.N) (h : IsUsed m t) : blk m (grid0.coords t 0) = grid0.coords t 0 := by
  have h := (isUsed_iff m hS t).mp h
  apply Fin.ext
  show min _ _ = _
  omega

/-- A window's block, element by element: the array at the place where the block's element sits. -/
theorem iblk_apply (hO : Ok m) (c : Dev nD) (w : Fin (cfgM m hO).W) (t : Fin (cfgM m hO).N) (y) (z : ((cfgM m hO).win w).shape.Idx)
    (h : ∀ a, (z a).val = ((cfgM m hO).win w).kind.off (((cfgM m hO).win w).index t a) (((cfgM m hO).win w).size a) + (y a).val) :
    iblk m hO c w t y = (((cfgM m hO).win w).arr).view.read (Elt F) (V m c (Pipeline.arrRef spec0 w)) z := by
  have e : (((cfgM m hO).win w).rect t).emb y = z :=
    funext fun a => Fin.ext ((Pipeline.Window.rect_emb_val_off ((cfgM m hO).win w) t y a).trans (h a).symm)
  rw [← e]
  rfl

/-- Window 0's block. -/
theorem iblk_rows (hS : Sorted (argE m) (argF m) (argU m)) (hO : Ok m) (c : Dev nD) (t : Fin (cfgM m hO).N) (y : S256x1024.Idx) (z : S155648x1024.Idx)
    (h0 : (z 0).val = (blk m (grid0.coords t 0)).val * 256 + (y 0).val) (h1 : (z 1).val = (y 1).val) :
    (iblk m hO c 0 t : S256x1024.Idx → F .f32) y = (m ((c : Thread nD τ).loc main_arg0) : S155648x1024.Idx → F .f32) z := by
  refine (iblk_apply m hO c 0 t y z fun a => ?_).trans ?_
  · have e := congrFun (map_rows m hS (grid0.coords t)) a
    refine Eq.trans ?_ (congrArg (fun n => n * S256x1024.size a + (y a).val) e.symm)
    fin_cases a
    · exact h0
    · exact h1.trans (by simp)
  · exact congrFun (V_main_arg0 m c) z

/-- The weights' and biases' blocks: the expert's own. -/
theorem iblk_one (hS : Sorted (argE m) (argF m) (argU m)) (hO : Ok m) (c : Dev nD) (t : Fin (cfgM m hO).N) (y : S1x1024x2048.Idx) (z : S32x1024x2048.Idx)
    (h0 : (z 0).val = expertOf m (grid0.coords t 0)) (h1 : (z 1).val = (y 1).val) (h2 : (z 2).val = (y 2).val) :
    (iblk m hO c 1 t : S1x1024x2048.Idx → F .f32) y = (m ((c : Thread nD τ).loc main_arg4) : S32x1024x2048.Idx → F .f32) z := by
  have hy : (y 0).val < 1 := (y 0).isLt
  refine (iblk_apply m hO c 1 t y z fun a => ?_).trans ?_
  · have e := congrFun (map_one m hS (grid0.coords t)) a
    refine Eq.trans ?_ (congrArg (fun n => n * S1x1024x2048.size a + (y a).val) e.symm)
    fin_cases a
    · refine h0.trans ?_
      show _ = expertOf m (grid0.coords t 0) * 1 + (y 0).val
      omega
    · exact h1.trans (by simp)
    · exact h2.trans (by simp)
  · exact congrFun (V_main_arg4 m c) z

theorem iblk_two (hS : Sorted (argE m) (argF m) (argU m)) (hO : Ok m) (c : Dev nD) (t : Fin (cfgM m hO).N) (y : S1x1x2048.Idx) (z : S32x1x2048.Idx)
    (h0 : (z 0).val = expertOf m (grid0.coords t 0)) (h1 : (z 1).val = (y 1).val) (h2 : (z 2).val = (y 2).val) :
    (iblk m hO c 2 t : S1x1x2048.Idx → F .f32) y = (V m c main_v12 : S32x1x2048.Idx → F .f32) z := by
  have hy : (y 0).val < 1 := (y 0).isLt
  refine (iblk_apply m hO c 2 t y z fun a => ?_).trans ?_
  · have e := congrFun (map_two m hS (grid0.coords t)) a
    refine Eq.trans ?_ (congrArg (fun n => n * S1x1x2048.size a + (y a).val) e.symm)
    fin_cases a
    · refine h0.trans ?_
      show _ = expertOf m (grid0.coords t 0) * 1 + (y 0).val
      omega
    · exact h1.trans (by simp)
    · exact h2.trans (by simp)
  · exact rfl

theorem iblk_three (hS : Sorted (argE m) (argF m) (argU m)) (hO : Ok m) (c : Dev nD) (t : Fin (cfgM m hO).N) (y : S1x1024x1024.Idx) (z : S32x1024x1024.Idx)
    (h0 : (z 0).val = expertOf m (grid0.coords t 0)) (h1 : (z 1).val = (y 1).val) (h2 : (z 2).val = (y 2).val) :
    (iblk m hO c 3 t : S1x1024x1024.Idx → F .f32) y = (m ((c : Thread nD τ).loc main_arg6) : S32x1024x1024.Idx → F .f32) z := by
  have hy : (y 0).val < 1 := (y 0).isLt
  refine (iblk_apply m hO c 3 t y z fun a => ?_).trans ?_
  · have e := congrFun (map_three m hS (grid0.coords t)) a
    refine Eq.trans ?_ (congrArg (fun n => n * S1x1024x1024.size a + (y a).val) e.symm)
    fin_cases a
    · refine h0.trans ?_
      show _ = expertOf m (grid0.coords t 0) * 1 + (y 0).val
      omega
    · exact h1.trans (by simp)
    · exact h2.trans (by simp)
  · exact congrFun (V_main_arg6 m c) z

theorem iblk_four (hS : Sorted (argE m) (argF m) (argU m)) (hO : Ok m) (c : Dev nD) (t : Fin (cfgM m hO).N) (y : S1x1x1024.Idx) (z : S32x1x1024.Idx)
    (h0 : (z 0).val = expertOf m (grid0.coords t 0)) (h1 : (z 1).val = (y 1).val) (h2 : (z 2).val = (y 2).val) :
    (iblk m hO c 4 t : S1x1x1024.Idx → F .f32) y = (V m c main_v13 : S32x1x1024.Idx → F .f32) z := by
  have hy : (y 0).val < 1 := (y 0).isLt
  refine (iblk_apply m hO c 4 t y z fun a => ?_).trans ?_
  · have e := congrFun (map_four m hS (grid0.coords t)) a
    refine Eq.trans ?_ (congrArg (fun n => n * S1x1x1024.size a + (y a).val) e.symm)
    fin_cases a
    · refine h0.trans ?_
      show _ = expertOf m (grid0.coords t 0) * 1 + (y 0).val
      omega
    · exact h1.trans (by simp)
    · exact h2.trans (by simp)
  · exact rfl

/-- The host's biases with a unit axis. -/
theorem read_bias_one (c : Dev nD) (e : Fin 32) (k : Fin 2048) : (V m c main_v12 : S32x1x2048.Idx → F .f32) (Idealize.ShloMosaic.ix3 e 0 k)
    = (m ((c : Thread nD τ).loc main_arg5) : S32x2048.Idx → F .f32) (Idealize.ShloMosaic.ix2 e k) := by
  unfold V
  after_reads_at
theorem read_bias_two (c : Dev nD) (e : Fin 32) (k : Fin 1024) : (V m c main_v13 : S32x1x1024.Idx → F .f32) (Idealize.ShloMosaic.ix3 e 0 k)
    = (m ((c : Thread nD τ).loc main_arg7) : S32x1024.Idx → F .f32) (Idealize.ShloMosaic.ix2 e k) := by
  unfold V
  after_reads_at

/-- A used block that is not its expert's first finds the block before it in use with the same weights. -/
theorem continues (hS : Sorted (argE m) (argF m) (argU m)) (hO : Ok m) : Continues m hO := by
  intro t hu hf
  have hc := coord_val t
  have hf' : argF m (Idealize.ShloMosaic.ix1 (grid0.coords t 0)) ≠ 1#32 := by
    intro h
    apply hf
    rw [← h, ← table_one m]
    refine congrArg (tbl m 1) ?_
    funext a
    obtain rfl : a = (0 : Fin 1) := Subsingleton.elim (α := Fin 1) _ _
    rfl
  have hut := (isUsed_iff m hS t).mp hu
  obtain ⟨q, hq, hE⟩ := hS.continues _ hut hf'
  let s : Fin (cfgM m hO).N := ⟨q.val, lt_trans (by omega) t.isLt⟩
  have hcs : (grid0.coords s 0).val = q.val := coord_val s
  have hs : IsUsed m s := (isUsed_iff m hS s).mpr (by omega)
  have he : expertOf m (grid0.coords t 0) = expertOf m (grid0.coords s 0) := by
    unfold expertOf
    rw [blk_used m hS t hu, blk_used m hS s hs, hE]
    congr 3
    exact Fin.ext hcs.symm
  refine ⟨s, by rw [← hc]; exact hq, hs, fun c => ⟨?_, ?_⟩⟩
  · refine funext fun y : S1x1024x2048.Idx => ?_
    let z : S32x1024x2048.Idx := Idealize.ShloMosaic.ix3 ⟨expertOf m (grid0.coords t 0), expertOf_lt m hS _⟩ (y 1) (y 2)
    exact (iblk_one m hS hO c t y z rfl rfl rfl).trans (iblk_one m hS hO c s y z he rfl rfl).symm
  · refine funext fun y : S1x1024x1024.Idx => ?_
    let z : S32x1024x1024.Idx := Idealize.ShloMosaic.ix3 ⟨expertOf m (grid0.coords t 0), expertOf_lt m hS _⟩ (y 1) (y 2)
    exact (iblk_three m hS hO c t y z rfl rfl rfl).trans (iblk_three m hS hO c s y z he rfl rfl).symm

end Cert.Kernel2Ideal.Experts

end
-- ==== Proof.Experts.Spec.lean ====
/- The experts' plain function of the arrays: a row through its block's expert, and zero in the blocks that are not in use. -/
module

public import proofs.«01_k».proof.Proof.Experts.Sorted
public import Idealize.ShloMosaic.PureOps.Ideal

@[expose] public section

noncomputable section

namespace Cert.Experts

open Idealize.ShloMosaic

/-- A row's image under the expert's first weights and bias. -/
def hid (x : Fin 1024 → EReal) (w : Fin 1024 → Fin 2048 → EReal) (b : Fin 2048 → EReal) (j : Fin 2048) : EReal := (∑ k, x k * w k j) + b j

/-- The literal seven. -/
abbrev seven : EReal := Ideal.ofBits .f32 0x40E00000#32

/-- The clamped gated unit of the two halves of an image. -/
def gated (h : Fin 2048 → EReal) (f : Fin 1024) : EReal :=
  (min seven (max (Ideal.ofBits .f32 0xC0E00000#32) (h ⟨1024 + f.val, by omega⟩)) + 1) * min (h ⟨f.val, by omega⟩) seven
    * Ideal.logistic (Ideal.ofBits .f32 0x3FD9DB23#32 * min (h ⟨f.val, by omega⟩) seven)

/-- A row through an expert. -/
def expert (x : Fin 1024 → EReal) (w1 : Fin 1024 → Fin 2048 → EReal) (b1 : Fin 2048 → EReal) (w2 : Fin 1024 → Fin 1024 → EReal) (b2 : Fin 1024 → EReal)
    (n : Fin 1024) : EReal := (∑ f, gated (hid x w1 b1) f * w2 f n) + b2 n

theorem expert_congr {x x' : Fin 1024 → EReal} {w1 w1' : Fin 1024 → Fin 2048 → EReal} {b1 b1' : Fin 2048 → EReal} {w2 w2' : Fin 1024 → Fin 1024 → EReal}
    {b2 b2' : Fin 1024 → EReal} (hx : x = x') (h1 : w1 = w1') (hb1 : b1 = b1') (h2 : w2 = w2') (hb2 : b2 = b2') (n : Fin 1024) :
    expert x w1 b1 w2 b2 n = expert x' w1' b1' w2' b2' n := by
  rw [hx, h1, hb1, h2, hb2]

/-- The expert of block `p`. -/
def expertAt (E : IVec (⟨1, ![608]⟩ : Shape) 32) (p : Fin 608) : Fin 32 := ⟨(E (ix1 p)).toNat % 32, Nat.mod_lt _ (by decide)⟩

/-- The row `r` of block `p`. -/
abbrev rowOf (p : Fin 608) (r : Fin 256) : Fin 155648 := ⟨p.val * 256 + r.val, by omega⟩

/-- The result's entry `n` in row `r` of block `p`. -/
def blockOut (x0 : (⟨2, ![155648, 1024]⟩ : Shape).Idx → EReal) (E : IVec (⟨1, ![608]⟩ : Shape) 32) (U : IVec (⟨1, ![1]⟩ : Shape) 32)
    (w1 : (⟨3, ![32, 1024, 2048]⟩ : Shape).Idx → EReal) (b1 : (⟨2, ![32, 2048]⟩ : Shape).Idx → EReal)
    (w2 : (⟨3, ![32, 1024, 1024]⟩ : Shape).Idx → EReal) (b2 : (⟨2, ![32, 1024]⟩ : Shape).Idx → EReal) (p : Fin 608) (r : Fin 256) (n : Fin 1024) : EReal :=
  if p.val < (U (ix1 0)).toNat then
    expert (fun k => x0 (ix2 (rowOf p r) k)) (fun k j => w1 (ix3 (expertAt E p) k j)) (fun j => b1 (ix2 (expertAt E p) j))
      (fun f n => w2 (ix3 (expertAt E p) f n)) (fun n => b2 (ix2 (expertAt E p) n)) n
  else 0

/-- The whole result. -/
def expertsArr (x0 : (⟨2, ![155648, 1024]⟩ : Shape).Idx → EReal) (E : IVec (⟨1, ![608]⟩ : Shape) 32) (U : IVec (⟨1, ![1]⟩ : Shape) 32)
    (w1 : (⟨3, ![32, 1024, 2048]⟩ : Shape).Idx → EReal) (b1 : (⟨2, ![32, 2048]⟩ : Shape).Idx → EReal)
    (w2 : (⟨3, ![32, 1024, 1024]⟩ : Shape).Idx → EReal) (b2 : (⟨2, ![32, 1024]⟩ : Shape).Idx → EReal) : (⟨2, ![155648, 1024]⟩ : Shape).Idx → EReal := fun i =>
  blockOut x0 E U w1 b1 w2 b2 ⟨(i 0).val / 256, by have h : (i 0).val < 155648 := (i 0).isLt; omega⟩ ⟨(i 0).val % 256, by omega⟩ ⟨(i 1).val, (i 1).isLt⟩

/-- The result at a block's row. -/
theorem expertsArr_at (x0 : (⟨2, ![155648, 1024]⟩ : Shape).Idx → EReal) (E : IVec (⟨1, ![608]⟩ : Shape) 32) (U : IVec (⟨1, ![1]⟩ : Shape) 32)
    (w1 : (⟨3, ![32, 1024, 2048]⟩ : Shape).Idx → EReal) (b1 : (⟨2, ![32, 2048]⟩ : Shape).Idx → EReal)
    (w2 : (⟨3, ![32, 1024, 1024]⟩ : Shape).Idx → EReal) (b2 : (⟨2, ![32, 1024]⟩ : Shape).Idx → EReal) (i : (⟨2, ![155648, 1024]⟩ : Shape).Idx)
    (p : Fin 608) (r : Fin 256) (n : Fin 1024) (h0 : (i 0).val = p.val * 256 + r.val) (h1 : (i 1).val = n.val) :
    expertsArr x0 E U w1 b1 w2 b2 i = blockOut x0 E U w1 b1 w2 b2 p r n := by
  have hp : (⟨(i 0).val / 256, by have h : (i 0).val < 155648 := (i 0).isLt; omega⟩ : Fin 608) = p := Fin.ext (by show (i 0).val / 256 = p.val; omega)
  have hr : (⟨(i 0).val % 256, by omega⟩ : Fin 256) = r := Fin.ext (by show (i 0).val % 256 = r.val; omega)
  have hn : (⟨(i 1).val, (i 1).isLt⟩ : Fin 1024) = n := Fin.ext h1
  unfold expertsArr
  rw [hp, hr, hn]

end Cert.Experts

end
-- ==== Proof.Experts.Value.lean ====
/- The experts' kernel over the extended reals: what a block of the result holds, and the whole array after the run. -/
module

public import proofs.«01_k».proof.Proof.Experts.TablesI
public import proofs.«01_k».proof.Proof.Experts.Spec
public import Idealize.ShloMosaic.Lib.IdealHost
public import Idealize.ShloMosaic.Lib.Pipeline.Covers
public import Idealize.ShloMosaic.Lib.Pipeline.Value

@[expose] public section

set_option maxRecDepth 16384

noncomputable section

namespace Cert.Kernel2Ideal.Experts

open Cert.Kernel2Ideal Cert.Kernel2Ideal.Gen Idealize.ShloMosaic Cert.Experts Idealize.ShloMosaic.TcCoe
open Idealize.ShloMosaic (ix1 ix2 ix3)

/-- The block's computation at an entry. -/
theorem pay_apply (x : Vec Ideal S256x1024 .f32) (w1 : Vec Ideal S1024x2048 .bf16) (b1 : Vec Ideal S1x1x2048 .f32) (w2 : Vec Ideal S1024x1024 .bf16)
    (b2 : Vec Ideal S1x1x1024 .f32) (r : Fin 256) (n : Fin 1024) :
    (k0_pay4 x w1 b1 w2 b2 (Idealize.ShloMosaic.ix2 r n) : EReal) = expert (fun k => x (Idealize.ShloMosaic.ix2 r k)) (fun k j => w1 (Idealize.ShloMosaic.ix2 k j)) (fun j => b1 (Idealize.ShloMosaic.ix3 0 0 j))
      (fun f n => w2 (Idealize.ShloMosaic.ix2 f n)) (fun n => b2 (Idealize.ShloMosaic.ix3 0 0 n)) n := by
  unfold k0_pay4
  pointwise
  rfl

/-- The cast weights are the weights. -/
theorem cast_one (x : Vec Ideal S1x1024x2048 .f32) (k : Fin 1024) (j : Fin 2048) :
    (k0_pay2 x (Idealize.ShloMosaic.ix2 k j) : EReal) = x (Idealize.ShloMosaic.ix3 0 k j) := by
  unfold k0_pay2
  pointwise
theorem cast_two (x : Vec Ideal S1x1024x1024 .f32) (k : Fin 1024) (j : Fin 1024) :
    (k0_pay3 x (Idealize.ShloMosaic.ix2 k j) : EReal) = x (Idealize.ShloMosaic.ix3 0 k j) := by
  unfold k0_pay3
  pointwise

/-- What the body leaves in a block that is not in use. -/
theorem zero_apply (y : S256x1024.Idx) : ((k0_pay1 : FVec Ideal S256x1024 .f32) y : EReal) = 0 := Ideal.ofBits_zero_f32

variable (m : (ℓ : Loc nD τ sig) → Buf (Elt Ideal) ℓ)

/-- The result, of the arguments. -/
abbrev resultArr (c : Dev nD) : S155648x1024.Idx → EReal :=
  expertsArr (m ((c : Thread nD τ).loc main_arg0)) (argE m) (argU m) (m ((c : Thread nD τ).loc main_arg4)) (m ((c : Thread nD τ).loc main_arg5))
    (m ((c : Thread nD τ).loc main_arg6)) (m ((c : Thread nD τ).loc main_arg7))

/-- A point's place in the grid. -/
abbrev at0 (t : Fin grid0.N) : Fin 608 := grid0.coords t 0

/-- The expert a used point reads is its block's. -/
theorem expert_val (hS : Sorted (argE m) (argF m) (argU m)) (t : Fin grid0.N) (h : IsUsed m t) :
    (expertAt (argE m) (at0 t)).val = expertOf m (at0 t) := by
  have hb : blk m (at0 t) = at0 t := blk_used m hS t h
  have hl := hS.expert_lt (at0 t)
  unfold expertOf
  rw [hb]
  exact Nat.mod_eq_of_lt hl

theorem used_rows (hS : Sorted (argE m) (argF m) (argU m)) (hO : Ok m) (c : Dev nD) (t : Fin (cfgM m hO).N) (h : IsUsed m t) (r : Fin 256) (k : Fin 1024) :
    (iblk m hO c 0 t : S256x1024.Idx → EReal) (Idealize.ShloMosaic.ix2 r k)
      = (m ((c : Thread nD τ).loc main_arg0) : S155648x1024.Idx → EReal) (Idealize.ShloMosaic.ix2 (rowOf (at0 t) r) k) := by
  have hb : blk m (at0 t) = at0 t := blk_used m hS t h
  refine iblk_rows m hS hO c t _ _ ?_ rfl
  show (at0 t).val * 256 + r.val = (blk m (at0 t)).val * 256 + r.val
  rw [hb]
theorem used_one (hS : Sorted (argE m) (argF m) (argU m)) (hO : Ok m) (c : Dev nD) (t : Fin (cfgM m hO).N) (h : IsUsed m t) (k : Fin 1024) (j : Fin 2048) :
    (k0_pay2 (iblk m hO c 1 t) (Idealize.ShloMosaic.ix2 k j) : EReal)
      = (m ((c : Thread nD τ).loc main_arg4) : S32x1024x2048.Idx → EReal) (Idealize.ShloMosaic.ix3 (expertAt (argE m) (at0 t)) k j) :=
  (cast_one _ k j).trans (iblk_one m hS hO c t _ _ (expert_val m hS t h) rfl rfl)
theorem used_two (hS : Sorted (argE m) (argF m) (argU m)) (hO : Ok m) (c : Dev nD) (t : Fin (cfgM m hO).N) (h : IsUsed m t) (j : Fin 2048) :
    (iblk m hO c 2 t : S1x1x2048.Idx → EReal) (Idealize.ShloMosaic.ix3 0 0 j)
      = (m ((c : Thread nD τ).loc main_arg5) : S32x2048.Idx → EReal) (Idealize.ShloMosaic.ix2 (expertAt (argE m) (at0 t)) j) :=
  (iblk_two m hS hO c t _ (Idealize.ShloMosaic.ix3 (expertAt (argE m) (at0 t)) 0 j) (expert_val m hS t h) rfl rfl).trans (read_bias_one m c _ j)
theorem used_three (hS : Sorted (argE m) (argF m) (argU m)) (hO : Ok m) (c : Dev nD) (t : Fin (cfgM m hO).N) (h : IsUsed m t) (k : Fin 1024) (j : Fin 1024) :
    (k0_pay3 (iblk m hO c 3 t) (Idealize.ShloMosaic.ix2 k j) : EReal)
      = (m ((c : Thread nD τ).loc main_arg6) : S32x1024x1024.Idx → EReal) (Idealize.ShloMosaic.ix3 (expertAt (argE m) (at0 t)) k j) :=
  (cast_two _ k j).trans (iblk_three m hS hO c t _ _ (expert_val m hS t h) rfl rfl)
theorem used_four (hS : Sorted (argE m) (argF m) (argU m)) (hO : Ok m) (c : Dev nD) (t : Fin (cfgM m hO).N) (h : IsUsed m t) (j : Fin 1024) :
    (iblk m hO c 4 t : S1x1x1024.Idx → EReal) (Idealize.ShloMosaic.ix3 0 0 j)
      = (m ((c : Thread nD τ).loc main_arg7) : S32x1024.Idx → EReal) (Idealize.ShloMosaic.ix2 (expertAt (argE m) (at0 t)) j) :=
  (iblk_four m hS hO c t _ (Idealize.ShloMosaic.ix3 (expertAt (argE m) (at0 t)) 0 j) (expert_val m hS t h) rfl rfl).trans (read_bias_two m c _ j)

/-- What a used point leaves in its block. -/
theorem used_out (hS : Sorted (argE m) (argF m) (argU m)) (hO : Ok m) (c : Dev nD) (t : Fin (cfgM m hO).N) (h : IsUsed m t) (r : Fin 256) (n : Fin 1024) :
    (outsAt0 m hO c t (Idealize.ShloMosaic.ix2 r n) : EReal)
      = expert (fun k => (m ((c : Thread nD τ).loc main_arg0) : S155648x1024.Idx → EReal) (Idealize.ShloMosaic.ix2 (rowOf (at0 t) r) k))
          (fun k j => (m ((c : Thread nD τ).loc main_arg4) : S32x1024x2048.Idx → EReal) (Idealize.ShloMosaic.ix3 (expertAt (argE m) (at0 t)) k j))
          (fun j => (m ((c : Thread nD τ).loc main_arg5) : S32x2048.Idx → EReal) (Idealize.ShloMosaic.ix2 (expertAt (argE m) (at0 t)) j))
          (fun f n => (m ((c : Thread nD τ).loc main_arg6) : S32x1024x1024.Idx → EReal) (Idealize.ShloMosaic.ix3 (expertAt (argE m) (at0 t)) f n))
          (fun n => (m ((c : Thread nD τ).loc main_arg7) : S32x1024.Idx → EReal) (Idealize.ShloMosaic.ix2 (expertAt (argE m) (at0 t)) n)) n := by
  unfold outsAt0
  rw [if_pos h]
  refine (pay_apply (iblk m hO c 0 t) (k0_pay2 (iblk m hO c 1 t)) (iblk m hO c 2 t) (k0_pay3 (iblk m hO c 3 t)) (iblk m hO c 4 t) r n).trans ?_
  exact expert_congr (funext fun k => used_rows m hS hO c t h r k) (funext fun k => funext fun j => used_one m hS hO c t h k j)
    (funext fun j => used_two m hS hO c t h j) (funext fun k => funext fun j => used_three m hS hO c t h k j) (funext fun j => used_four m hS hO c t h j) n

/-- What a point leaves in its block of the result. -/
theorem out_at (hS : Sorted (argE m) (argF m) (argU m)) (hO : Ok m) (c : Dev nD) (t : Fin (cfgM m hO).N) (r : Fin 256) (n : Fin 1024) :
    (outsAt0 m hO c t (Idealize.ShloMosaic.ix2 r n) : EReal)
      = blockOut (m ((c : Thread nD τ).loc main_arg0)) (argE m) (argU m) (m ((c : Thread nD τ).loc main_arg4)) (m ((c : Thread nD τ).loc main_arg5))
        (m ((c : Thread nD τ).loc main_arg6)) (m ((c : Thread nD τ).loc main_arg7)) (at0 t) r n := by
  have hu := isUsed_iff m hS t
  unfold blockOut
  by_cases h : IsUsed m t
  · rw [if_pos (hu.mp h)]
    exact used_out m hS hO c t h r n
  · rw [if_neg (mt hu.mpr h)]
    unfold outsAt0
    rw [if_neg h]
    exact zero_apply _

/-- Block `t` of the result is the result window's at point `t`. -/
theorem index5 (hO : Ok m) (t : Fin (cfgM m hO).N) :
    ((cfgM m hO).win 5).index t (0 : Fin 2) = t.val ∧ ((cfgM m hO).win 5).index t (1 : Fin 2) = 0 := by
  have e : ∀ i : Fin 608, (BitVec.ofNat 32 i.val).toNat = i.val := fun i => by
    have := i.isLt
    rw [BitVec.toNat_ofNat]; omega
  exact ⟨(show (BitVec.ofNat 32 (grid0.coords t 0).val).toNat = t.val from (e (at0 t)).trans (coord_val t)), rfl⟩

/-- The grid's blocks cover the result. -/
theorem covers5 (hO : Ok m) : ((cfgM m hO).win 5).Covers :=
  ((cfgM m hO).win 5).covers_of_index_surj rfl (by show ∀ a : Fin 2, 0 < S256x1024.size a; decide) fun β => by
    have h0 : (β (0 : Fin 2)).val < 608 := lt_of_lt_of_eq (β (0 : Fin 2)).isLt (show ((cfgM m hO).win 5).nblk (0 : Fin 2) = 608 from (by decide : (155648 + 256 - 1) / 256 = 608))
    have h1 : (β (1 : Fin 2)).val < 1 := lt_of_lt_of_eq (β (1 : Fin 2)).isLt (show ((cfgM m hO).win 5).nblk (1 : Fin 2) = 1 from (by decide : (1024 + 1024 - 1) / 1024 = 1))
    have hN : (cfgM m hO).N = 608 := rfl
    refine ⟨⟨(β (0 : Fin 2)).val, h0⟩, fun (a : Fin 2) => ?_⟩
    match a with
    | 0 => exact (index5 m hO _).1
    | 1 => exact (index5 m hO _).2.trans (by omega)

/-- The array's entry under a point's block. -/
theorem out_emb (hS : Sorted (argE m) (argF m) (argU m)) (hO : Ok m) (c : Dev nD) (t : Fin (cfgM m hO).N) (y : S256x1024.Idx) (z : S155648x1024.Idx)
    (h0 : (z 0).val = t.val * 256 + (y 0).val) (h1 : (z 1).val = 0 * 1024 + (y 1).val) :
    (outsAt0 m hO c t y : EReal) = resultArr m c z := by
  have hy : y = (Idealize.ShloMosaic.ix2 (y 0 : Fin 256) (y 1 : Fin 1024) : S256x1024.Idx) := by
    funext a; fin_cases a <;> rfl
  have e0 : (z 0).val = (at0 t).val * 256 + (y 0).val := h0.trans (congrArg (fun n => n * 256 + (y 0).val) (coord_val t).symm)
  refine (congrArg (outsAt0 m hO c t) hy).trans ?_
  refine (out_at m hS hO c t (y 0) (y 1)).trans (expertsArr_at _ _ _ _ _ _ _ z (at0 t) (y 0) (y 1) e0 (h1.trans (by omega))).symm

/-- The array after the run. -/
theorem arr_eq (hS : Sorted (argE m) (argF m) (argU m)) (hO : Ok m) (c : Dev nD) : (dats m hO 0 c).arrAt 5 (cfgM m hO).N = resultArr m c := by
  refine (dats m hO 0 c).arrAt_eq_of_covers 5 _ (covers5 m hO) fun t hf y => ?_
  blk_simp
  rw [after0_5]
  refine out_emb m hS hO c t y _ ?_ ?_
  · exact (Pipeline.Window.rect_emb_val_off ((cfgM m hO).win 5) t y (0 : Fin 2)).trans
      (congrArg (fun n => n * 256 + (y (0 : Fin 2)).val) (index5 m hO t).1)
  · exact (Pipeline.Window.rect_emb_val_off ((cfgM m hO).win 5) t y (1 : Fin 2)).trans
      (congrArg (fun n => n * 1024 + (y (1 : Fin 2)).val) (index5 m hO t).2)

end Cert.Kernel2Ideal.Experts

end
-- ==== Proof.Experts.Ref.lean ====
/- The experts' reference over the extended reals, at an index: the gathers read the block's expert, and the rest is the plain function. -/
module

public import proofs.«01_k».proof.Proof.Experts.Spec
public import proofs.«01_k».proof.Proof.Gen.Reference2Ideal.Run
public import Idealize.ShloMosaic.Lib.IdealHost
public import Idealize.ShloMosaic.Lib.Pointwise
public import Idealize.ShloMosaic.Lib.Routing.Ops

@[expose] public section

set_option maxRecDepth 16384

noncomputable section

namespace Cert.Reference2Ideal.Experts

open Cert.Reference2Ideal Cert.Reference2Ideal.Gen Idealize.ShloMosaic Cert.Experts Idealize.ShloMosaic.TcCoe

/-- The experts' indices as the gathers take them. -/
def idxArr (E : IVec S608 32) : IVec S608x1 32 :=
  broadcastInDim S608x1 ![0] bcast_S608_S608x1_0
    (select (cmpi .slt E (broadcastInDim S608 ![] bcast_S_S608 (constantI S_ 32 0#32))) (addi E (broadcastInDim S608 ![] bcast_S_S608 (constantI S_ 32 32#32))) E)

/-- An expert's index is its word, and that of `expertAt`. -/
theorem idx_at (E : IVec S608 32) (p : Fin 608) (h : (E (ix1 p)).toNat < 32) : idxArr E (ix2 p 0) = BitVec.ofNat 32 (expertAt E p).val := by
  have e : idxArr E (ix2 p 0) = if (E (ix1 p)).slt 0#32 then E (ix1 p) + 32#32 else E (ix1 p) := by
    unfold idxArr
    pointwise
    unfold Scalar.select IntOp.cmpi IntOp.addi
    cases (E (ix1 p)).slt 0#32 <;> rfl
  have hn : (E (ix1 p)).slt 0#32 = false := by
    have : ¬ (E (ix1 p)).toInt < 0 := by rw [BitVec.toInt_eq_toNat_of_lt (by omega)]; omega
    simpa [BitVec.slt] using this
  rw [e, hn]
  show E (ix1 p) = BitVec.ofNat 32 ((E (ix1 p)).toNat % 32)
  rw [Nat.mod_eq_of_lt h]
  simp

/-- An expert's index, read back. -/
theorem word_nat (b : Fin 32) : (BitVec.ofNat 32 b.val).toInt.toNat = b.val := by
  have := b.isLt
  rw [BitVec.toInt_eq_toNat_of_lt (by rw [BitVec.toNat_ofNat]; omega), BitVec.toNat_ofNat]
  omega

/-- The place a gather's index stands at. -/
theorem index_val (idx : IVec S608x1 32) (p : Fin 608) (b : Fin 32) (hb : idx (ix2 p 0) = BitVec.ofNat 32 b.val) (i : S608x1.Idx) (h : i = ix2 p 0) :
    min (idx i).toInt.toNat (32 - 1) = b.val := by
  have := b.isLt
  rw [h, hb, word_nat]
  omega

/-- The gather of the first weights. -/
theorem gather_one (x : S32x1024x2048.Idx → EReal) (idx : IVec S608x1 32) (p : Fin 608) (k : Fin 1024) (j : Fin 2048) (b : Fin 32)
    (hb : idx (ix2 p 0) = BitVec.ofNat 32 b.val) : Host.gather gather_S32x1024x2048_S608x1_S608x1024x2048_12_0_n_n_0_1_110242048 x idx (ix3 p k j) = x (ix3 b k j) := by
  unfold Host.gather
  refine congrArg x (funext fun a => Fin.ext ?_)
  match a with
  | ⟨0, _⟩ =>
    show GatherDims.start _ (ix3 p k j) idx 0 + GatherDims.batchCoord _ (ix3 p k j) 0 + GatherDims.offCoord _ (ix3 p k j) 0 = b.val
    rw [GatherDims.batchCoord_eq_zero _ _ _ List.not_mem_nil,
      GatherDims.offCoord_eq_zero _ _ _ (fun h => ((GatherDims.mem_sKept _ 0).1 h).1 (List.mem_singleton.2 rfl))]
    simp only [Nat.add_zero]
    unfold GatherDims.start
    rw [dif_pos (show (0 : Fin 3) ∈ gather_S32x1024x2048_S608x1_S608x1024x2048_12_0_n_n_0_1_110242048.startIndexMap from List.mem_singleton.2 rfl)]
    exact index_val idx p b hb _ (by funext a; refine Fin.ext ?_; match a with | ⟨0, _⟩ => rfl | ⟨1, _⟩ => rfl)
  | ⟨1, _⟩ =>
    show GatherDims.start _ (ix3 p k j) idx 1 + GatherDims.batchCoord _ (ix3 p k j) 1 + GatherDims.offCoord _ (ix3 p k j) 1 = k.val
    rw [GatherDims.batchCoord_eq_zero _ _ _ List.not_mem_nil, Nat.add_zero]
    unfold GatherDims.start GatherDims.offCoord
    rw [dif_neg (show ¬ (1 : Fin 3) ∈ gather_S32x1024x2048_S608x1_S608x1024x2048_12_0_n_n_0_1_110242048.startIndexMap by decide), dif_pos (show (1 : Fin 3) ∈ gather_S32x1024x2048_S608x1_S608x1024x2048_12_0_n_n_0_1_110242048.sKept by decide), Nat.zero_add]
    rfl
  | ⟨2, _⟩ =>
    show GatherDims.start _ (ix3 p k j) idx 2 + GatherDims.batchCoord _ (ix3 p k j) 2 + GatherDims.offCoord _ (ix3 p k j) 2 = j.val
    rw [GatherDims.batchCoord_eq_zero _ _ _ List.not_mem_nil, Nat.add_zero]
    unfold GatherDims.start GatherDims.offCoord
    rw [dif_neg (show ¬ (2 : Fin 3) ∈ gather_S32x1024x2048_S608x1_S608x1024x2048_12_0_n_n_0_1_110242048.startIndexMap by decide), dif_pos (show (2 : Fin 3) ∈ gather_S32x1024x2048_S608x1_S608x1024x2048_12_0_n_n_0_1_110242048.sKept by decide), Nat.zero_add]
    rfl

/-- The gather of the second weights. -/
theorem gather_two (x : S32x1024x1024.Idx → EReal) (idx : IVec S608x1 32) (p : Fin 608) (k : Fin 1024) (j : Fin 1024) (b : Fin 32)
    (hb : idx (ix2 p 0) = BitVec.ofNat 32 b.val) : Host.gather gather_S32x1024x1024_S608x1_S608x1024x1024_12_0_n_n_0_1_110241024 x idx (ix3 p k j) = x (ix3 b k j) := by
  unfold Host.gather
  refine congrArg x (funext fun a => Fin.ext ?_)
  match a with
  | ⟨0, _⟩ =>
    show GatherDims.start _ (ix3 p k j) idx 0 + GatherDims.batchCoord _ (ix3 p k j) 0 + GatherDims.offCoord _ (ix3 p k j) 0 = b.val
    rw [GatherDims.batchCoord_eq_zero _ _ _ List.not_mem_nil,
      GatherDims.offCoord_eq_zero _ _ _ (fun h => ((GatherDims.mem_sKept _ 0).1 h).1 (List.mem_singleton.2 rfl))]
    simp only [Nat.add_zero]
    unfold GatherDims.start
    rw [dif_pos (show (0 : Fin 3) ∈ gather_S32x1024x1024_S608x1_S608x1024x1024_12_0_n_n_0_1_110241024.startIndexMap from List.mem_singleton.2 rfl)]
    exact index_val idx p b hb _ (by funext a; refine Fin.ext ?_; match a with | ⟨0, _⟩ => rfl | ⟨1, _⟩ => rfl)
  | ⟨1, _⟩ =>
    show GatherDims.start _ (ix3 p k j) idx 1 + GatherDims.batchCoord _ (ix3 p k j) 1 + GatherDims.offCoord _ (ix3 p k j) 1 = k.val
    rw [GatherDims.batchCoord_eq_zero _ _ _ List.not_mem_nil, Nat.add_zero]
    unfold GatherDims.start GatherDims.offCoord
    rw [dif_neg (show ¬ (1 : Fin 3) ∈ gather_S32x1024x1024_S608x1_S608x1024x1024_12_0_n_n_0_1_110241024.startIndexMap by decide), dif_pos (show (1 : Fin 3) ∈ gather_S32x1024x1024_S608x1_S608x1024x1024_12_0_n_n_0_1_110241024.sKept by decide), Nat.zero_add]
    rfl
  | ⟨2, _⟩ =>
    show GatherDims.start _ (ix3 p k j) idx 2 + GatherDims.batchCoord _ (ix3 p k j) 2 + GatherDims.offCoord _ (ix3 p k j) 2 = j.val
    rw [GatherDims.batchCoord_eq_zero _ _ _ List.not_mem_nil, Nat.add_zero]
    unfold GatherDims.start GatherDims.offCoord
    rw [dif_neg (show ¬ (2 : Fin 3) ∈ gather_S32x1024x1024_S608x1_S608x1024x1024_12_0_n_n_0_1_110241024.startIndexMap by decide), dif_pos (show (2 : Fin 3) ∈ gather_S32x1024x1024_S608x1_S608x1024x1024_12_0_n_n_0_1_110241024.sKept by decide), Nat.zero_add]
    rfl

/-- The gathers of the biases. -/
theorem gather_bias_one (x : S32x2048.Idx → EReal) (idx : IVec S608x1 32) (p : Fin 608) (j : Fin 2048) (b : Fin 32)
    (hb : idx (ix2 p 0) = BitVec.ofNat 32 b.val) : Host.gather gather_S32x2048_S608x1_S608x2048_1_0_n_n_0_1_12048 x idx (ix2 p j) = x (ix2 b j) :=
  Routing.gather_row _ rfl rfl rfl rfl rfl x idx p j b hb (by decide)
theorem gather_bias_two (x : S32x1024.Idx → EReal) (idx : IVec S608x1 32) (p : Fin 608) (j : Fin 1024) (b : Fin 32)
    (hb : idx (ix2 p 0) = BitVec.ofNat 32 b.val) : Host.gather gather_S32x1024_S608x1_S608x1024_1_0_n_n_0_1_11024 x idx (ix2 p j) = x (ix2 b j) :=
  Routing.gather_row _ rfl rfl rfl rfl rfl x idx p j b hb (by decide)

/-- The images under the first weights, of gathered weights and biases. -/
def hidArr (x0 : FVec Ideal S155648x1024 .f32) (w : FVec Ideal S608x1024x2048 .f32) (b : FVec Ideal S608x2048 .f32) : FVec Ideal S608x256x2048 .f32 :=
  addf (Host.dotGeneral dot_S608x256x1024_S608x1024x2048_S608x256x2048_2_1_1_2_0_0 none (shapeCast S608x256x1024 x0 shapeCasts_S155648x1024_S608x256x1024) w)
    (broadcastInDim S608x256x2048 ![0, 1, 2] bcast_S608x1x2048_S608x256x2048_0_1_2
      (broadcastInDim S608x1x2048 ![0, 2] bcast_S608x2048_S608x1x2048_0_2 b))

theorem hidArr_at (x0 : FVec Ideal S155648x1024 .f32) (w : FVec Ideal S608x1024x2048 .f32) (b : FVec Ideal S608x2048 .f32) (p : Fin 608) (r : Fin 256) (j : Fin 2048) :
    (hidArr x0 w b (ix3 p r j) : EReal) = hid (fun k => x0 (ix2 (rowOf p r) k)) (fun k j => w (ix3 p k j)) (fun j => b (ix2 p j)) j := by
  unfold hidArr
  pointwise
  rfl

/-- The clamped gated unit of the images. -/
def gatedArr (H : FVec Ideal S608x256x2048 .f32) : FVec Ideal S608x256x1024 .f32 :=
  mulf (mulf (addf (minimumf (broadcastInDim S608x256x1024 ![] bcast_S_S608x256x1024 (id (constant S_ .f32 0x40E00000#32)))
      (maximumf (broadcastInDim S608x256x1024 ![] bcast_S_S608x256x1024 (id (constant S_ .f32 0xC0E00000#32)))
        (extractStridedSlice S608x256x1024 ![0, 0, 1024] H slices_S608x256x2048_S608x256x1024_0_0_1024)))
      (broadcastInDim S608x256x1024 ![] bcast_S_S608x256x1024 (constant S_ .f32 0x3F800000#32)))
      (minimumf (extractStridedSlice S608x256x1024 ![0, 0, 0] H slices_S608x256x2048_S608x256x1024_0_0_0)
        (broadcastInDim S608x256x1024 ![] bcast_S_S608x256x1024 (constant S_ .f32 0x40E00000#32))))
    (Host.divf (broadcastInDim S608x256x1024 ![] bcast_S_S608x256x1024 (constant S_ .f32 0x3F800000#32))
      (addf (broadcastInDim S608x256x1024 ![] bcast_S_S608x256x1024 (constant S_ .f32 0x3F800000#32))
        (Host.exp (Host.negf (mulf (broadcastInDim S608x256x1024 ![] bcast_S_S608x256x1024 (constant S_ .f32 0x3FD9DB23#32))
          (minimumf (extractStridedSlice S608x256x1024 ![0, 0, 0] H slices_S608x256x2048_S608x256x1024_0_0_0)
            (broadcastInDim S608x256x1024 ![] bcast_S_S608x256x1024 (constant S_ .f32 0x40E00000#32))))))))

theorem gatedArr_at (H : FVec Ideal S608x256x2048 .f32) (p : Fin 608) (r : Fin 256) (f : Fin 1024) :
    (gatedArr H (ix3 p r f) : EReal) = gated (fun j => H (ix3 p r j)) f := by
  unfold gatedArr
  pointwise
  rfl

/-- The experts' outputs, zero past the blocks in use. -/
def outArr (A : FVec Ideal S608x256x1024 .f32) (U : IVec S1 32) (w : FVec Ideal S608x1024x1024 .f32) (b : FVec Ideal S608x1024 .f32) : FVec Ideal S155648x1024 .f32 :=
  shapeCast S155648x1024 (select (broadcastInDim S608x256x1024 ![0, 1, 2] bcast_S608x1x1_S608x256x1024_0_1_2 (broadcastInDim S608x1x1 ![0] bcast_S608_S608x1x1_0
      (cmpi .slt (iotaInDim S608 32 0) (broadcastInDim S608 ![0] bcast_S1_S608_0 U))))
    (addf (Host.dotGeneral dot_S608x256x1024_S608x1024x1024_S608x256x1024_2_1_1_2_0_0 none A w)
      (broadcastInDim S608x256x1024 ![0, 1, 2] bcast_S608x1x1024_S608x256x1024_0_1_2
        (broadcastInDim S608x1x1024 ![0, 2] bcast_S608x1024_S608x1x1024_0_2 b)))
    (broadcastInDim S608x256x1024 ![] bcast_S_S608x256x1024 (id (constant S_ .f32 0x00000000#32)))) shapeCasts_S608x256x1024_S155648x1024

theorem outArr_at (A : FVec Ideal S608x256x1024 .f32) (U : IVec S1 32) (w : FVec Ideal S608x1024x1024 .f32) (b : FVec Ideal S608x1024 .f32)
    (hU : (U (ix1 0)).toNat < 2 ^ 31) (p : Fin 608) (r : Fin 256) (n : Fin 1024) :
    (outArr A U w b (ix2 (rowOf p r) n) : EReal)
      = if p.val < (U (ix1 0)).toNat then (∑ f : Fin 1024, A (ix3 p r f) * w (ix3 p f n)) + b (ix2 p n) else 0 := by
  unfold outArr
  pointwise
  have h1 : (p.val * 256 + r.val) / 256 = p.val := by omega
  have h2 : (p.val * 256 + r.val) % 256 = r.val := by omega
  simp only [h1, h2, Fin.eta]
  have hc : IntOp.cmpi CmpIPredicate.slt (BitVec.ofNat 32 p.val) (U (ix1 0)) = BitVec.ofBool (decide (p.val < (U (ix1 0)).toNat)) := by
    have hp := p.isLt
    unfold IntOp.cmpi
    refine congrArg BitVec.ofBool ?_
    show (BitVec.ofNat 32 p.val).slt (U (ix1 0)) = _
    rw [BitVec.slt_eq_decide, BitVec.toInt_eq_toNat_of_lt (by rw [BitVec.toNat_ofNat]; omega), BitVec.toInt_eq_toNat_of_lt (by omega), BitVec.toNat_ofNat,
      Nat.mod_eq_of_lt (by omega)]
    exact decide_eq_decide.mpr (by omega)
  rw [hc]
  by_cases h : p.val < (U (ix1 0)).toNat
  · rw [decide_eq_true h, if_pos h]
    rfl
  · rw [decide_eq_false h, if_neg h]
    exact Ideal.ofBits_zero_f32

/-- The stages at a block's row, put together. -/
theorem value_eq (x0 : FVec Ideal S155648x1024 .f32) (E Fst : IVec S608 32) (U : IVec S1 32) (w1 : FVec Ideal S32x1024x2048 .f32) (b1 : FVec Ideal S32x2048 .f32)
    (w2 : FVec Ideal S32x1024x1024 .f32) (b2 : FVec Ideal S32x1024 .f32) (hS : Sorted E Fst U) :
    (outArr (gatedArr (hidArr x0 (Host.gather gather_S32x1024x2048_S608x1_S608x1024x2048_12_0_n_n_0_1_110242048 w1 (idxArr E))
        (Host.gather gather_S32x2048_S608x1_S608x2048_1_0_n_n_0_1_12048 b1 (idxArr E)))) U
      (Host.gather gather_S32x1024x1024_S608x1_S608x1024x1024_12_0_n_n_0_1_110241024 w2 (idxArr E))
      (Host.gather gather_S32x1024_S608x1_S608x1024_1_0_n_n_0_1_11024 b2 (idxArr E)) : S155648x1024.Idx → EReal)
      = expertsArr x0 E U w1 b1 w2 b2 := by
  funext i
  obtain ⟨p, r, n, rfl⟩ : ∃ (p : Fin 608) (r : Fin 256) (n : Fin 1024), i = ix2 (rowOf p r) n := by
    have h0 : (i 0).val < 155648 := (i 0).isLt
    refine ⟨⟨(i 0).val / 256, by omega⟩, ⟨(i 0).val % 256, by omega⟩, i 1, ?_⟩
    funext a
    match a with
    | 0 => exact Fin.ext (by show (i 0).val = (i 0).val / 256 * 256 + (i 0).val % 256; omega)
    | 1 => rfl
  have hx := idx_at E p (hS.expert_lt p)
  refine (outArr_at _ U _ _ hS.used_pos.2 p r n).trans ((expertsArr_at x0 E U w1 b1 w2 b2 _ p r n rfl rfl).trans ?_).symm
  unfold blockOut
  by_cases h : p.val < (U (ix1 0)).toNat
  · rw [if_pos h, if_pos h]
    have eH : (fun j => hidArr x0 (Host.gather gather_S32x1024x2048_S608x1_S608x1024x2048_12_0_n_n_0_1_110242048 w1 (idxArr E))
        (Host.gather gather_S32x2048_S608x1_S608x2048_1_0_n_n_0_1_12048 b1 (idxArr E)) (ix3 p r j))
        = hid (fun k => x0 (ix2 (rowOf p r) k)) (fun k j => w1 (ix3 (expertAt E p) k j)) (fun j => b1 (ix2 (expertAt E p) j)) := by
      funext j
      rw [hidArr_at]
      exact congrArg₂ (fun w b => hid _ w b j) (funext fun k => funext fun j => gather_one w1 _ p k j _ hx) (funext fun j => gather_bias_one b1 _ p j _ hx)
    unfold expert
    refine congrArg₂ (· + ·) (Finset.sum_congr rfl fun f _ => ?_) (gather_bias_two b2 _ p n _ hx).symm
    rw [gatedArr_at, eH, gather_two w2 _ p f n _ hx]
  · rw [if_neg h, if_neg h]

variable (m : (ℓ : Loc nD τ sig) → Buf (Elt Ideal) ℓ)

/-- The reference's result is made of these. -/
theorem res_eq (c : Dev nD) : Value.res_main_v59 m c
    = outArr (gatedArr (hidArr (m ((c.tc : Thread nD τ).loc main_arg0))
        (Host.gather gather_S32x1024x2048_S608x1_S608x1024x2048_12_0_n_n_0_1_110242048 (m ((c.tc : Thread nD τ).loc main_arg4)) (idxArr (m ((c.tc : Thread nD τ).loc main_arg1))))
        (Host.gather gather_S32x2048_S608x1_S608x2048_1_0_n_n_0_1_12048 (m ((c.tc : Thread nD τ).loc main_arg5)) (idxArr (m ((c.tc : Thread nD τ).loc main_arg1))))))
      (m ((c.tc : Thread nD τ).loc main_arg3))
      (Host.gather gather_S32x1024x1024_S608x1_S608x1024x1024_12_0_n_n_0_1_110241024 (m ((c.tc : Thread nD τ).loc main_arg6)) (idxArr (m ((c.tc : Thread nD τ).loc main_arg1))))
      (Host.gather gather_S32x1024_S608x1_S608x1024_1_0_n_n_0_1_11024 (m ((c.tc : Thread nD τ).loc main_arg7)) (idxArr (m ((c.tc : Thread nD τ).loc main_arg1)))) := by
  unfold Value.res_main_v59 outArr gatedArr hidArr idxArr
  rfl

/-- The reference's result is the plain function. -/
theorem res_value (c : Dev nD) (Fst : IVec S608 32) (hS : Sorted (m ((c.tc : Thread nD τ).loc main_arg1)) Fst (m ((c.tc : Thread nD τ).loc main_arg3))) :
    (Value.res_main_v59 m c : S155648x1024.Idx → EReal)
      = expertsArr (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) := by
  rw [res_eq]
  generalize (m ((c.tc : Thread nD τ).loc main_arg0)) = x0
  generalize (m ((c.tc : Thread nD τ).loc main_arg1)) = E at hS ⊢
  generalize (m ((c.tc : Thread nD τ).loc main_arg3)) = U at hS ⊢
  generalize (m ((c.tc : Thread nD τ).loc main_arg4)) = w1
  generalize (m ((c.tc : Thread nD τ).loc main_arg5)) = b1
  generalize (m ((c.tc : Thread nD τ).loc main_arg6)) = w2
  generalize (m ((c.tc : Thread nD τ).loc main_arg7)) = b2
  exact value_eq x0 E Fst U w1 b1 w2 b2 hS

end Cert.Reference2Ideal.Experts

end
-- ==== Proof.Experts.Claim.lean ====
/- The experts' claims: the kernel, in both readings, runs and leaves its arguments as they were, and its result is the reference's. -/
module

public import proofs.«01_k».proof.Proof.Experts.Value
public import proofs.«01_k».proof.Proof.Experts.Tables
public import proofs.«01_k».proof.Proof.Experts.Ref
public import proofs.«01_k».proof.Proof.Gen.Pre_sorted_blocks
public import proofs.«01_k».proof.Defs
public import Idealize.ShloMosaic.Adequacy
public import Idealize.ShloMosaic.Init

@[expose] public section

set_option maxRecDepth 16384

noncomputable section

namespace Cert.Experts

open Idealize.ShloMosaic Idealize.SL.Sem Idealize.ShloMosaic.TcCoe

/-- The precondition of the kernel's arrays, read. -/
theorem sorted_kernel (m : (ℓ : Loc Cert.Kernel2.nD Cert.Kernel2.τ Cert.Kernel2.sig) → Buf (Elt Bits) ℓ) (h : Cert.Pre_Kernel2 m) :
    Sorted (Cert.Kernel2.Experts.argE m) (Cert.Kernel2.Experts.argF m) (Cert.Kernel2.Experts.argU m) :=
  sorted_of_pre _ _ _ _ _ _ _ _ (h 0).1 (h 0).2.1 (h 0).2.2.1 (h 0).2.2.2
theorem sorted_ideal (m : (ℓ : Loc Cert.Kernel2Ideal.nD Cert.Kernel2Ideal.τ Cert.Kernel2Ideal.sig) → Buf (Elt Ideal) ℓ) (h : Cert.Pre_Kernel2Ideal m) :
    Sorted (Cert.Kernel2Ideal.Experts.argE m) (Cert.Kernel2Ideal.Experts.argF m) (Cert.Kernel2Ideal.Experts.argU m) :=
  sorted_of_pre _ _ _ _ _ _ _ _ (h 0).1 (h 0).2.1 (h 0).2.2.1 (h 0).2.2.2

/-- The kernel runs and leaves its arguments as they were. -/
theorem kernel_frame : Cert.quiescent_Kernel2 := fun m ρ h =>
  Cert.Kernel2.Experts.frame m ρ (Cert.Kernel2.Experts.ok m (sorted_kernel m h)) (Cert.Kernel2.Experts.continues m (sorted_kernel m h) _)
theorem ideal_frame : Cert.quiescent_Kernel2Ideal := fun m ρ h =>
  Cert.Kernel2Ideal.Experts.frame m ρ (Cert.Kernel2Ideal.Experts.ok m (sorted_ideal m h)) (Cert.Kernel2Ideal.Experts.continues m (sorted_ideal m h) _)

/-- The reference leaves its arguments as they were; it has no counter. -/
theorem reference_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The result's array after the kernel's run. -/
theorem kernel_result (m : (ℓ : Loc Cert.Kernel2Ideal.nD Cert.Kernel2Ideal.τ Cert.Kernel2Ideal.sig) → Buf (Elt Ideal) ℓ) (ρ : Dev Cert.Kernel2Ideal.nD → PrngReg)
    (hS : Sorted (Cert.Kernel2Ideal.Experts.argE m) (Cert.Kernel2Ideal.Experts.argF m) (Cert.Kernel2Ideal.Experts.argU m)) :
    θ_run (Cert.Kernel2Ideal.defs (F := Ideal)) (onTc (τ := Cert.Kernel2Ideal.τ) (Cert.Kernel2Ideal.main (F := Ideal))) ⟨m, fun _ => 0, ρ⟩
      (fun r => ∀ c : Dev Cert.Kernel2Ideal.nD,
        r.2.mem ((c.tc : Thread Cert.Kernel2Ideal.nD Cert.Kernel2Ideal.τ).loc Cert.Kernel2Ideal.main_v14) = Cert.Kernel2Ideal.Experts.resultArr m c) := by
  have hO := Cert.Kernel2Ideal.Experts.ok m hS
  exact (θ_run Cert.Kernel2Ideal.defs _ _).mono (fun r h c => ((h c).1 5).trans (Cert.Kernel2Ideal.Experts.arr_eq m hS hO c))
    (Cert.Kernel2Ideal.Experts.run_main m ρ hO (Cert.Kernel2Ideal.Experts.continues m hS hO))

/-- The kernel and the reference end with the same result. -/
theorem algebraic : Cert.algebraic_Kernel2Ideal_Reference2Ideal := by
  intro m ρ m' ρ' hpre hagree
  have hS := sorted_ideal m hpre
  have hO := Cert.Kernel2Ideal.Experts.ok m hS
  refine ⟨fun c => Cert.Kernel2Ideal.Experts.resultArr m c, ?_, ?_⟩
  · exact (θ_run Cert.Kernel2Ideal.defs _ _).mono (fun r h c => ⟨h.1 c, h.2 c⟩)
      (θ_run_and (kernel_result m ρ hS) (Cert.Kernel2Ideal.Experts.unchanged m ρ hO (Cert.Kernel2Ideal.Experts.continues m hS hO)))
  · refine (θ_run Cert.Reference2Ideal.defs _ _).mono (fun r h c => ⟨(h c).1.trans ?_, (h c).2⟩) (Cert.Reference2Ideal.Value.run (F := Ideal) m' ρ')
    obtain rfl : c = (0 : Fin 1) := Subsingleton.elim (α := Fin 1) _ _
    obtain ⟨h0, h1, h2, h3, h4, h5, h6, h7⟩ := hagree (0 : Fin 1)
    have hS' : Sorted (m' (((0 : Dev Cert.Reference2Ideal.nD).tc : Thread Cert.Reference2Ideal.nD Cert.Reference2Ideal.τ).loc Cert.Reference2Ideal.main_arg1))
        (m' (((0 : Dev Cert.Reference2Ideal.nD).tc : Thread Cert.Reference2Ideal.nD Cert.Reference2Ideal.τ).loc Cert.Reference2Ideal.main_arg2))
        (m' (((0 : Dev Cert.Reference2Ideal.nD).tc : Thread Cert.Reference2Ideal.nD Cert.Reference2Ideal.τ).loc Cert.Reference2Ideal.main_arg3)) :=
      h1.symm ▸ h2.symm ▸ h3.symm ▸ hS
    refine (Cert.Reference2Ideal.Experts.res_value m' 0 _ hS').trans ?_
    exact congr (congr (congr (congr (congr (congr (congrArg expertsArr h0) h1) h3) h4) h5) h6) h7

end Cert.Experts

end
-- ==== Proof.Proj.Spec.lean ====
/- The projection's plain function of the arrays: a hidden row normalised and modulated, times the weights, by head. -/
module

public import Idealize.ShloMosaic.PureOps.Ideal
public import Idealize.ShloMosaic.Lib.Pointwise

@[expose] public section

noncomputable section

namespace Cert.Proj

open Idealize.ShloMosaic

/-- A hidden row, normalised with the gain and modulated by a shift and a scale. -/
def modulated (x g sh sc : Fin 1024 → EReal) (l : Fin 1024) : EReal :=
  x l * Ideal.rsqrt (Ideal.div (∑ k, x k * x k) (Ideal.ofBits .f32 0x44800000#32) + Ideal.ofBits .f32 0x358637BD#32) * g l * (1 + sc l) + sh l

/-- The row's product with one column of the weights. -/
def proj (x g sh sc w : Fin 1024 → EReal) : EReal := ∑ l, modulated x g sh sc l * w l

theorem proj_congr {x x' g g' sh sh' sc sc' w w' : Fin 1024 → EReal} (hx : x = x') (hg : g = g') (hsh : sh = sh') (hsc : sc = sc') (hw : w = w') :
    proj x g sh sc w = proj x' g' sh' sc' w' := by
  rw [hx, hg, hsh, hsc, hw]

/-- The row of the modulation that belongs to a position: the context's is row 16, the latents' that of the batch entry. -/
def modRow (b : Fin 16) (j : Fin 2304) : Fin 24 := if j.val < 256 then 16 else ⟨b.val, by omega⟩

theorem modRow_context (b : Fin 16) (j : Fin 2304) (h : j.val < 256) : modRow b j = 16 := if_pos h
theorem modRow_latent (b : Fin 16) (j : Fin 2304) (h : ¬ j.val < 256) : modRow b j = ⟨b.val, by omega⟩ := if_neg h

/-- One entry of the result whose columns begin at `o`: batch entry `b`, head `h`, position `j`, channel `e`. -/
def entry (o : Nat) (ho : o ≤ 2048) (X : (⟨3, ![16, 2304, 1024]⟩ : Shape).Idx → EReal) (M : (⟨2, ![24, 2048]⟩ : Shape).Idx → EReal)
    (G : (⟨1, ![1024]⟩ : Shape).Idx → EReal) (W : (⟨2, ![1024, 3072]⟩ : Shape).Idx → EReal) (b : Fin 16) (h : Fin 8) (j : Fin 2304) (e : Fin 128) : EReal :=
  proj (fun l => X (ix3 b j l)) (fun l => G (ix1 l)) (fun l => M (ix2 (modRow b j) ⟨l.val, by omega⟩)) (fun l => M (ix2 (modRow b j) ⟨1024 + l.val, by omega⟩))
    (fun l => W (ix2 l ⟨o + h.val * 128 + e.val, by omega⟩))

/-- The whole result whose columns begin at `o`. -/
def headsArr (o : Nat) (ho : o ≤ 2048) (X : (⟨3, ![16, 2304, 1024]⟩ : Shape).Idx → EReal) (M : (⟨2, ![24, 2048]⟩ : Shape).Idx → EReal)
    (G : (⟨1, ![1024]⟩ : Shape).Idx → EReal) (W : (⟨2, ![1024, 3072]⟩ : Shape).Idx → EReal) : (⟨4, ![16, 8, 2304, 128]⟩ : Shape).Idx → EReal := fun i =>
  entry o ho X M G W (i 0) (i 1) (i 2) (i 3)

end Cert.Proj

end
-- ==== Proof.Proj.Value.lean ====
/- The projection's kernel over the extended reals: what a grid point leaves in its three result blocks, and the arrays after the run. -/
module

public import proofs.«01_k».proof.Proof.Gen.Kernel3Ideal.Value
public import proofs.«01_k».proof.Proof.Proj.Spec
public import Idealize.ShloMosaic.Lib.IdealHost
public import Idealize.ShloMosaic.Lib.Pointwise
public import Idealize.ShloMosaic.Lib.Pipeline.ValueKit
public import Idealize.ShloMosaic.Lib.Pipeline.Covers
public import Idealize.ShloMosaic.Lib.Pipeline.ReadBack
public import Idealize.ShloMosaic.Lib.StableHlo.ReadAt

@[expose] public section

set_option maxRecDepth 16384

noncomputable section

namespace Cert.Kernel3Ideal.Proj

open Cert.Kernel3Ideal Cert.Kernel3Ideal.Gen Idealize.ShloMosaic Cert.Proj Idealize.ShloMosaic.TcCoe

/-! ### A point's computation -/

/-- The whole product of a block of rows. -/
theorem product_apply (mr : Vec Ideal S1x2048 .f32) (x : Vec Ideal S1x256x1024 .f32) (g : Vec Ideal S1x1024 .f32) (w : Vec Ideal S1024x3072 .bf16)
    (r : Fin 256) (n : Fin 3072) :
    (k0_pay6 mr x g w (ix2 r n) : EReal)
      = proj (fun l => x (ix3 0 r l)) (fun l => g (ix2 0 l)) (fun l => mr (ix2 0 ⟨l.val, by omega⟩)) (fun l => mr (ix2 0 ⟨1024 + l.val, by omega⟩)) (fun l => w (ix2 l n)) := by
  unfold k0_pay6
  pointwise
  rfl

/-- A head's columns of the product, as the block is stored. -/
def headPiece (o : Nat) (hs : S256x3072.Slices ![0, o] S256x128) (v : FVec Ideal S256x3072 .f32) : FVec Ideal S1x1x256x128 .bf16 :=
  shapeCast S1x1x256x128 (truncf .bf16 (extractStridedSlice S256x128 ![0, o] v hs) bitsLt_bf16_f32) shapeCasts_S256x128_S1x1x256x128

theorem headPiece_apply (o : Nat) (ho : o + 128 ≤ 3072) (hs : S256x3072.Slices ![0, o] S256x128) (v : FVec Ideal S256x3072 .f32) (r : Fin 256) (e : Fin 128) :
    (headPiece o hs v (ix4 0 0 r e) : EReal) = v (ix2 r ⟨o + e.val, by omega⟩) := by
  unfold headPiece
  pointwise

variable (m : (ℓ : Loc nD τ sig) → Buf (Elt Ideal) ℓ)

/-! ### Grid points and the blocks they are handed -/

/-- The batch entry of a grid point. -/
def bOf (t : Fin cfg0.N) : Fin 16 := ⟨t.val / 9, by have h : t.val < 144 := lt_of_lt_of_eq t.isLt N_0; omega⟩
/-- The position of row `r` of a grid point's block. -/
def posOf (t : Fin cfg0.N) (r : Fin 256) : Fin 2304 := ⟨t.val % 9 * 256 + r.val, by omega⟩

theorem idx0 : ∀ t : Fin cfg0.N, win0_0.index t 0 = t.val / 9 ∧ win0_0.index t 1 = t.val % 9 ∧ win0_0.index t 2 = 0 :=
  (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = t.val / 9 ∧ win0_4.index t 1 = 0 ∧ win0_4.index t 2 = t.val % 9 ∧ win0_4.index t 3 = 0 :=
  (by decide +kernel : ∀ t : Fin grid0.N, _)
theorem idx5 : ∀ t : Fin cfg0.N, win0_5.index t 0 = t.val / 9 ∧ win0_5.index t 1 = 0 ∧ win0_5.index t 2 = t.val % 9 ∧ win0_5.index t 3 = 0 :=
  (by decide +kernel : ∀ t : Fin grid0.N, _)
theorem idx6 : ∀ t : Fin cfg0.N, win0_6.index t 0 = t.val / 9 ∧ win0_6.index t 1 = 0 ∧ win0_6.index t 2 = t.val % 9 ∧ win0_6.index t 3 = 0 :=
  (by decide +kernel : ∀ t : Fin grid0.N, _)

/-- The row of the modulation a grid point loads. -/
theorem off_row : ∀ t : Fin cfg0.N, k0_off1 (grid0.coords t) 0 = (if t.val % 9 < 1 then 16 else t.val / 9) ∧ k0_off1 (grid0.coords t) 1 = 0 :=
  (by decide +kernel : ∀ t : Fin grid0.N, _)

theorem xBlock (c : Dev nD) (t : Fin cfg0.N) (r : Fin 256) (l : Fin 1024) :
    iblk m c 0 t (ix3 0 r l) = m (c, Proc.tc.devRef main_arg0) (ix3 (bOf t) (posOf t r) l) := by
  rw [← V_main_arg0 m c]
  blk_ext [iblk, idx0 t, bOf, posOf] <;> rfl

theorem modBlock (c : Dev nD) (t : Fin cfg0.N) (k : Fin 24) (l : Fin 2048) :
    iblk m c 1 t (ix2 k l) = m (c, Proc.tc.devRef main_arg1) (ix2 k l) := by
  rw [← V_main_arg1 m c]
  blk_ext [iblk, idx1 t]

theorem gRead (c : Dev nD) (z : Fin 1) (l : Fin 1024) : V m c main_v0 (ix2 z l) = m (c, Proc.tc.devRef main_arg2) (ix1 l) := by
  unfold V
  after_reads_at
theorem wRead (c : Dev nD) (l : Fin 1024) (n : Fin 3072) : (V m c main_v1 (ix2 l n) : EReal) = m (c, Proc.tc.devRef main_arg3) (ix2 l n) := by
  unfold V
  after_reads_at

theorem gBlock (c : Dev nD) (t : Fin cfg0.N) (l : Fin 1024) : iblk m c 2 t (ix2 0 l) = m (c, Proc.tc.devRef main_arg2) (ix1 l) := by
  have h : iblk m c 2 t (ix2 0 l) = V m c main_v0 (ix2 0 l) := by blk_ext [iblk, idx2 t]
  rw [h, gRead]

theorem wBlock (c : Dev nD) (t : Fin cfg0.N) (l : Fin 1024) (n : Fin 3072) :
    (iblk m c 3 t (ix2 l n) : EReal) = m (c, Proc.tc.devRef main_arg3) (ix2 l n) := by
  have h : iblk m c 3 t (ix2 l n) = V m c main_v1 (ix2 l n) := by blk_ext [iblk, idx3 t]
  exact h.trans (wRead m c l n)

/-- The loaded row of the modulation is the one of the block's positions. -/
theorem modLoad (c : Dev nD) (t : Fin cfg0.N) (ia) (r : Fin 256) (l : Fin 2048) :
    (View.ld (iblk m c 1 t) (Rect.unit (s := S24x2048) (k0_off1 (grid0.coords t)) S1x2048.size ia) (ix2 0 l) : EReal)
      = m (c, Proc.tc.devRef main_arg1) (ix2 (modRow (bOf t) (posOf t r)) l) := by
  refine Eq.trans (View.ld_unit_apply_of _ _ _ _ _ _ fun a => ?_) (modBlock m c t (modRow (bOf t) (posOf t r)) l)
  obtain ⟨h0, h1⟩ := off_row t
  match a with
  | 0 =>
    refine Eq.trans ?_ (congrArg (· + 0) h0.symm)
    show (modRow (bOf t) (posOf t r)).val = _
    unfold modRow posOf bOf
    dsimp only
    split_ifs with h h' <;> first | rfl | omega
  | 1 =>
    refine Eq.trans ?_ (congrArg (· + l.val) h1.symm)
    show l.val = 0 + l.val
    omega

/-- The result array whose columns begin at `o`, of the arguments. -/
abbrev resultArr (o : Nat) (ho : o ≤ 2048) (c : Dev nD) : S16x8x2304x128.Idx → EReal :=
  headsArr o ho (m ((c : Thread nD τ).loc main_arg0)) (m ((c : Thread nD τ).loc main_arg1)) (m ((c : Thread nD τ).loc main_arg2)) (m ((c : Thread nD τ).loc main_arg3))

/-- A stored head is that head's entries of the result. -/
theorem head_point (c : Dev nD) (t : Fin cfg0.N) (o : Nat) (ho : o ≤ 2048) (h : Fin 8) (r : Fin 256) (e : Fin 128) (k o' : Nat) (hk : o' = o + k * 128)
    (hs : S256x3072.Slices ![0, o'] S256x128) (ia) (x : S1x1x256x128.Idx) (h1 : h.val = k + (x 1).val) (h2 : r.val = (x 2).val) (h3 : e.val = (x 3).val) :
    (headPiece o' hs (k0_pay6 (View.ld (iblk m c 1 t) (Rect.unit (s := S24x2048) (k0_off1 (grid0.coords t)) S1x2048.size ia)) (iblk m c 0 t) (iblk m c 2 t)
        (iblk m c 3 t)) x : EReal)
      = resultArr m o ho c (ix4 (bOf t) h (posOf t r) e) := by
  have x0_lt : (x 0).val < 1 := (x 0).isLt
  have x1_lt : (x 1).val < 1 := (x 1).isLt
  have hx : x = ix4 0 0 r e := by
    funext a
    match a with
    | 0 => exact Fin.ext (by show (x 0).val = 0; omega)
    | 1 => exact Fin.ext (by show (x 1).val = 0; omega)
    | 2 => exact Fin.ext h2.symm
    | 3 => exact Fin.ext h3.symm
  rw [hx, headPiece_apply o' (by omega), product_apply]
  show _ = entry o ho _ _ _ _ (bOf t) h (posOf t r) e
  unfold entry
  refine proj_congr (funext fun l => xBlock m c t r l) (funext fun l => gBlock m c t l) (funext fun l => modLoad m c t ia r _)
    (funext fun l => modLoad m c t ia r _) (funext fun l => (wBlock m c t l _).trans ?_)
  refine congrArg (fun n => (m ((c : Thread nD τ).loc main_arg3) : S1024x3072.Idx → EReal) (ix2 l n)) (Fin.ext ?_)
  show o' + e.val = o + h.val * 128 + e.val
  omega

/-- What a point leaves in its block of the queries. -/
theorem out4 (c : Dev nD) (t : Fin cfg0.N) (h : Fin 8) (r : Fin 256) (e : Fin 128) :
    ((outsAt0 m c t).1 (ix4 0 h r e) : EReal) = resultArr m 0 (by decide) c (ix4 (bOf t) h (posOf t r) e) := by
  unfold outsAt0
  frame_out
  canon_tiles x h
  · exact head_point m c t 0 (by decide) h r e 7 896 (by decide) slices_S256x3072_o0_896_S256x128 _ x h1 h2 h3
  · exact head_point m c t 0 (by decide) h r e 6 768 (by decide) slices_S256x3072_o0_768_S256x128 _ x h1 h2 h3
  · exact head_point m c t 0 (by decide) h r e 5 640 (by decide) slices_S256x3072_o0_640_S256x128 _ x h1 h2 h3
  · exact head_point m c t 0 (by decide) h r e 4 512 (by decide) slices_S256x3072_o0_512_S256x128 _ x h1 h2 h3
  · exact head_point m c t 0 (by decide) h r e 3 384 (by decide) slices_S256x3072_o0_384_S256x128 _ x h1 h2 h3
  · exact head_point m c t 0 (by decide) h r e 2 256 (by decide) slices_S256x3072_o0_256_S256x128 _ x h1 h2 h3
  · exact head_point m c t 0 (by decide) h r e 1 128 (by decide) slices_S256x3072_o0_128_S256x128 _ x h1 h2 h3
  · exact head_point m c t 0 (by decide) h r e 0 0 (by decide) slices_S256x3072_o0_0_S256x128 _ x (h1.trans (Nat.zero_add _).symm) h2 h3

/-- What a point leaves in its block of the keys. -/
theorem out5 (c : Dev nD) (t : Fin cfg0.N) (h : Fin 8) (r : Fin 256) (e : Fin 128) :
    ((outsAt0 m c t).2.1 (ix4 0 h r e) : EReal) = resultArr m 1024 (by decide) c (ix4 (bOf t) h (posOf t r) e) := by
  unfold outsAt0
  frame_out
  canon_tiles x h
  · exact head_point m c t 1024 (by decide) h r e 7 1920 (by decide) slices_S256x3072_o0_1920_S256x128 _ x h1 h2 h3
  · exact head_point m c t 1024 (by decide) h r e 6 1792 (by decide) slices_S256x3072_o0_1792_S256x128 _ x h1 h2 h3
  · exact head_point m c t 1024 (by decide) h r e 5 1664 (by decide) slices_S256x3072_o0_1664_S256x128 _ x h1 h2 h3
  · exact head_point m c t 1024 (by decide) h r e 4 1536 (by decide) slices_S256x3072_o0_1536_S256x128 _ x h1 h2 h3
  · exact head_point m c t 1024 (by decide) h r e 3 1408 (by decide) slices_S256x3072_o0_1408_S256x128 _ x h1 h2 h3
  · exact head_point m c t 1024 (by decide) h r e 2 1280 (by decide) slices_S256x3072_o0_1280_S256x128 _ x h1 h2 h3
  · exact head_point m c t 1024 (by decide) h r e 1 1152 (by decide) slices_S256x3072_o0_1152_S256x128 _ x h1 h2 h3
  · exact head_point m c t 1024 (by decide) h r e 0 1024 (by decide) slices_S256x3072_o0_1024_S256x128 _ x (h1.trans (Nat.zero_add _).symm) h2 h3

/-- What a point leaves in its block of the values. -/
theorem out6 (c : Dev nD) (t : Fin cfg0.N) (h : Fin 8) (r : Fin 256) (e : Fin 128) :
    ((outsAt0 m c t).2.2 (ix4 0 h r e) : EReal) = resultArr m 2048 (by decide) c (ix4 (bOf t) h (posOf t r) e) := by
  unfold outsAt0
  frame_out
  canon_tiles x h
  · exact head_point m c t 2048 (by decide) h r e 7 2944 (by decide) slices_S256x3072_o0_2944_S256x128 _ x h1 h2 h3
  · exact head_point m c t 2048 (by decide) h r e 6 2816 (by decide) slices_S256x3072_o0_2816_S256x128 _ x h1 h2 h3
  · exact head_point m c t 2048 (by decide) h r e 5 2688 (by decide) slices_S256x3072_o0_2688_S256x128 _ x h1 h2 h3
  · exact head_point m c t 2048 (by decide) h r e 4 2560 (by decide) slices_S256x3072_o0_2560_S256x128 _ x h1 h2 h3
  · exact head_point m c t 2048 (by decide) h r e 3 2432 (by decide) slices_S256x3072_o0_2432_S256x128 _ x h1 h2 h3
  · exact head_point m c t 2048 (by decide) h r e 2 2304 (by decide) slices_S256x3072_o0_2304_S256x128 _ x h1 h2 h3
  · exact head_point m c t 2048 (by decide) h r e 1 2176 (by decide) slices_S256x3072_o0_2176_S256x128 _ x h1 h2 h3
  · exact head_point m c t 2048 (by decide) h r e 0 2048 (by decide) slices_S256x3072_o0_2048_S256x128 _ x (h1.trans (Nat.zero_add _).symm) h2 h3

/-! ### The arrays after the run -/

/-- The grid's blocks cover each result. -/
theorem covers4 : (cfg0.win 4).Covers :=
  (cfg0.win 4).covers_of_index_surj rfl (by decide) fun β => by
    have h0 : (β 0).val < 16 := lt_of_lt_of_eq (β 0).isLt (by decide : (cfg0.win 4).nblk 0 = 16)
    have h1 : (β 1).val < 1 := lt_of_lt_of_eq (β 1).isLt (by decide : (cfg0.win 4).nblk 1 = 1)
    have h2 : (β 2).val < 9 := lt_of_lt_of_eq (β 2).isLt (by decide : (cfg0.win 4).nblk 2 = 9)
    have h3 : (β 3).val < 1 := lt_of_lt_of_eq (β 3).isLt (by decide : (cfg0.win 4).nblk 3 = 1)
    refine ⟨⟨(β 0).val * 9 + (β 2).val, lt_of_lt_of_eq (by omega : _ < 144) N_0.symm⟩, fun a => ?_⟩
    obtain ⟨e0, e1, e2, e3⟩ := idx4 ⟨(β 0).val * 9 + (β 2).val, lt_of_lt_of_eq (by omega : _ < 144) N_0.symm⟩
    fin_cases a
    · exact e0.trans (by show ((β 0).val * 9 + (β 2).val) / 9 = (β 0).val; omega)
    · exact e1.trans (by show 0 = (β 1).val; omega)
    · exact e2.trans (by show ((β 0).val * 9 + (β 2).val) % 9 = (β 2).val; omega)
    · exact e3.trans (by show 0 = (β 3).val; omega)
theorem covers5 : (cfg0.win 5).Covers := covers4
theorem covers6 : (cfg0.win 6).Covers := covers4

/-- A block's index by its coordinates. -/
theorem block_idx (y : S1x8x256x128.Idx) : ∃ (h : Fin 8) (r : Fin 256) (e : Fin 128), y = ix4 0 h r e := by
  refine ⟨y 1, y 2, y 3, ?_⟩
  have y0 : (y 0).val < 1 := (y 0).isLt
  funext a
  match a with
  | 0 => exact Fin.ext (by show (y 0).val = 0; omega)
  | 1 => rfl
  | 2 => rfl
  | 3 => rfl

/-- An index of a result under a point's block. -/
theorem emb_idx (t : Fin cfg0.N) (h : Fin 8) (r : Fin 256) (e : Fin 128) (z : S16x8x2304x128.Idx) (h0 : (z 0).val = (bOf t).val) (h1 : (z 1).val = h.val)
    (h2 : (z 2).val = (posOf t r).val) (h3 : (z 3).val = e.val) : ix4 (bOf t) h (posOf t r) e = z := by
  funext a
  match a with
  | 0 => exact Fin.ext h0.symm
  | 1 => exact Fin.ext h1.symm
  | 2 => exact Fin.ext h2.symm
  | 3 => exact Fin.ext h3.symm

theorem arr4 (c : Dev nD) : (dats m 0 c).arrAt 4 cfg0.N = resultArr m 0 (by decide) c := by
  refine (dats m 0 c).arrAt_eq_of_covers 4 _ covers4 fun t hf y => ?_
  blk_simp
  rw [after0_4]
  obtain ⟨h, r, e, rfl⟩ := block_idx y
  refine (out4 m c t h r e).trans (congrArg _ (emb_idx t h r e _ ?_ ?_ ?_ ?_)) <;> blk_simp [idx4 t, bOf, posOf] <;> rfl

theorem arr5 (c : Dev nD) : (dats m 0 c).arrAt 5 cfg0.N = resultArr m 1024 (by decide) c := by
  refine (dats m 0 c).arrAt_eq_of_covers 5 _ covers5 fun t hf y => ?_
  blk_simp
  rw [after0_5]
  obtain ⟨h, r, e, rfl⟩ := block_idx y
  refine (out5 m c t h r e).trans (congrArg _ (emb_idx t h r e _ ?_ ?_ ?_ ?_)) <;> blk_simp [idx5 t, bOf, posOf] <;> rfl

theorem arr6 (c : Dev nD) : (dats m 0 c).arrAt 6 cfg0.N = resultArr m 2048 (by decide) c := by
  refine (dats m 0 c).arrAt_eq_of_covers 6 _ covers6 fun t hf y => ?_
  blk_simp
  rw [after0_6]
  obtain ⟨h, r, e, rfl⟩ := block_idx y
  refine (out6 m c t h r e).trans (congrArg _ (emb_idx t h r e _ ?_ ?_ ?_ ?_)) <;> blk_simp [idx6 t, bOf, posOf] <;> rfl

end Cert.Kernel3Ideal.Proj

end
-- ==== Proof.Proj.Ref.lean ====
/- The projection's reference, read: its three results are the plain function of its arguments. -/
module

public import proofs.«01_k».proof.Proof.Proj.Spec
public import proofs.«01_k».proof.Proof.Gen.Reference3Ideal.Read
public import Idealize.ShloMosaic.Lib.IdealHost
public import Idealize.ShloMosaic.Lib.Pointwise

@[expose] public section

set_option maxRecDepth 16384

noncomputable section

namespace Cert.Reference3Ideal.Proj

open Cert.Reference3Ideal Cert.Reference3Ideal.Gen Cert.Reference3Ideal.Read Idealize.ShloMosaic Cert.Proj Idealize.ShloMosaic.TcCoe

/-- The context's rows, normalised and modulated. -/
theorem context_at (x0 : Vec Ideal S16x2304x1024 .f32) (x1 : Vec Ideal S24x2048 .f32) (x2 : Vec Ideal S1024 .f32) (b : Fin 16) (p : Fin 256) (l : Fin 1024) :
    (val_main_v29 (F := Ideal) x0 x1 x2 (ix3 b p l) : EReal)
      = modulated (fun l => x0 (ix3 b ⟨p.val, by omega⟩ l)) (fun l => x2 (ix1 l)) (fun l => x1 (ix2 16 ⟨l.val, by omega⟩)) (fun l => x1 (ix2 16 ⟨1024 + l.val, by omega⟩)) l := by
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v3 val_main_v2 val_main_cst val_main_cst_0 val_main_cst_1 val_main_cst_2
  pointwise
  unfold modulated
  rfl

/-- The latents' rows, normalised and modulated. -/
theorem latent_at (x0 : Vec Ideal S16x2304x1024 .f32) (x1 : Vec Ideal S24x2048 .f32) (x2 : Vec Ideal S1024 .f32) (b : Fin 16) (p : Fin 2048) (l : Fin 1024) :
    (val_main_v49 (F := Ideal) x0 x1 x2 (ix3 b p l) : EReal)
      = modulated (fun l => x0 (ix3 b ⟨256 + p.val, by omega⟩ l)) (fun l => x2 (ix1 l)) (fun l => x1 (ix2 ⟨b.val, by omega⟩ ⟨l.val, by omega⟩))
          (fun l => x1 (ix2 ⟨b.val, by omega⟩ ⟨1024 + l.val, by omega⟩)) l := by
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v5 val_main_v4 val_main_v1 val_main_v0 val_main_cst_3 val_main_cst_4 val_main_cst_5 val_main_cst_6
  pointwise
  unfold modulated
  rfl

variable (x0 : Vec Ideal S16x2304x1024 .f32) (x1 : Vec Ideal S24x2048 .f32) (x2 : Vec Ideal S1024 .f32) (x3 : Vec Ideal S1024x3072 .f32)

/-- The projected rows: the context's, then the latents'. -/
theorem projected_at (b : Fin 16) (j : Fin 2304) (n : Fin 3072) :
    (val_main_v52 (F := Ideal) x0 x1 x2 x3 (ix3 b j n) : EReal)
      = proj (fun l => x0 (ix3 b j l)) (fun l => x2 (ix1 l)) (fun l => x1 (ix2 (modRow b j) ⟨l.val, by omega⟩)) (fun l => x1 (ix2 (modRow b j) ⟨1024 + l.val, by omega⟩))
          (fun l => x3 (ix2 l n)) := by
  unfold val_main_v52 val_main_v51 val_main_v50
  pointwise
  unfold proj
  by_cases hj : j.val < 256
  · rw [dif_pos hj, modRow_context b j hj]
    refine Finset.sum_congr rfl fun l _ => ?_
    rw [context_at]
  · rw [dif_neg hj, modRow_latent b j hj]
    refine Finset.sum_congr rfl fun l _ => ?_
    have e : (⟨256 + (j.val - 256), by omega⟩ : Fin 2304) = j := Fin.ext (by show 256 + (j.val - 256) = j.val; omega)
    rw [latent_at, e]

/-- An array whose entries are those of the plain function is the plain function's. -/
theorem heads_ext (o : Nat) (ho : o ≤ 2048) (R : S16x8x2304x128.Idx → EReal)
    (h : ∀ (b : Fin 16) (h : Fin 8) (j : Fin 2304) (e : Fin 128),
      R (ix4 b h j e) = (val_main_v52 (F := Ideal) x0 x1 x2 x3 (ix3 b j ⟨o + (h.val * 128 + e.val), by omega⟩) : EReal)) :
    R = headsArr o ho x0 x1 x2 x3 := by
  funext i
  obtain ⟨b, g, j, e, rfl⟩ : ∃ (b : Fin 16) (g : Fin 8) (j : Fin 2304) (e : Fin 128), i = ix4 b g j e := ⟨i 0, i 1, i 2, i 3, by funext a; fin_cases a <;> rfl⟩
  refine (h b g j e).trans ((projected_at x0 x1 x2 x3 b j _).trans ?_)
  show _ = entry o ho x0 x1 x2 x3 b g j e
  unfold entry
  simp only [Nat.add_assoc]

/-- A head's channel, in the row before it was divided into heads. -/
theorem head_idx (b : Fin 16) (h : Fin 8) (j : Fin 2304) (e : Fin 128) :
    idx_main_v56 (idx_main_v57 (ix4 b h j e)) = ix3 b j ⟨h.val * 128 + e.val, by omega⟩ := by
  funext a
  apply Fin.ext
  fin_cases a
  · show (((b.val * 2304 + j.val) * 8 + h.val) * 128 + e.val) / 2359296 = b.val
    omega
  · show (((b.val * 2304 + j.val) * 8 + h.val) * 128 + e.val) / 1024 % 2304 = j.val
    omega
  · show (((b.val * 2304 + j.val) * 8 + h.val) * 128 + e.val) % 1024 = h.val * 128 + e.val
    omega

/-- The queries, the keys and the values. -/
theorem queries_eq : (val_main_v58 (F := Ideal) x0 x1 x2 x3 : S16x8x2304x128.Idx → EReal) = headsArr 0 (by decide) x0 x1 x2 x3 :=
  heads_ext x0 x1 x2 x3 0 _ _ fun b h j e => by
    refine (val_main_v58_apply x0 x1 x2 x3 _).trans ((val_main_v57_apply x0 x1 x2 x3 _).trans ((val_main_v56_apply x0 x1 x2 x3 _).trans ?_))
    rw [head_idx]
    refine (val_main_v53_apply x0 x1 x2 x3 _).trans (congrArg (val_main_v52 (F := Ideal) x0 x1 x2 x3) ?_)
    funext a
    apply Fin.ext
    fin_cases a
    · rfl
    · rfl
    · exact (Nat.zero_add _).symm
theorem keys_eq : (val_main_v61 (F := Ideal) x0 x1 x2 x3 : S16x8x2304x128.Idx → EReal) = headsArr 1024 (by decide) x0 x1 x2 x3 :=
  heads_ext x0 x1 x2 x3 1024 _ _ fun b h j e => by
    refine (val_main_v61_apply x0 x1 x2 x3 _).trans ((val_main_v60_apply x0 x1 x2 x3 _).trans ((val_main_v59_apply x0 x1 x2 x3 _).trans ?_))
    refine (congrArg (val_main_v54 (F := Ideal) x0 x1 x2 x3) (head_idx b h j e)).trans ?_
    refine (val_main_v54_apply x0 x1 x2 x3 _).trans (congrArg (val_main_v52 (F := Ideal) x0 x1 x2 x3) ?_)
    funext a
    fin_cases a <;> rfl
theorem values_eq : (val_main_v64 (F := Ideal) x0 x1 x2 x3 : S16x8x2304x128.Idx → EReal) = headsArr 2048 (by decide) x0 x1 x2 x3 :=
  heads_ext x0 x1 x2 x3 2048 _ _ fun b h j e => by
    refine (val_main_v64_apply x0 x1 x2 x3 _).trans ((val_main_v63_apply x0 x1 x2 x3 _).trans ((val_main_v62_apply x0 x1 x2 x3 _).trans ?_))
    refine (congrArg (val_main_v55 (F := Ideal) x0 x1 x2 x3) (head_idx b h j e)).trans ?_
    refine (val_main_v55_apply x0 x1 x2 x3 _).trans (congrArg (val_main_v52 (F := Ideal) x0 x1 x2 x3) ?_)
    funext a
    fin_cases a <;> rfl

end Cert.Reference3Ideal.Proj

end
-- ==== Proof.Proj.Claim.lean ====
/- The projection's claims: the reference leaves its arguments as they were, and the kernel's three results are the reference's. -/
module

public import proofs.«01_k».proof.Proof.Proj.Value
public import proofs.«01_k».proof.Proof.Proj.Ref
public import proofs.«01_k».proof.Proof.Gen.Reference3Ideal.Run
public import proofs.«01_k».proof.Defs
public import Idealize.ShloMosaic.Adequacy
public import Idealize.ShloMosaic.Init

@[expose] public section

set_option maxRecDepth 16384

noncomputable section

namespace Cert.Proj

open Idealize.ShloMosaic Idealize.SL.Sem Idealize.ShloMosaic.TcCoe

/-- The reference leaves its arguments as they were; it has no counter. -/
theorem reference_frame : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Equal arrays have equal projections. -/
theorem headsArr_congr (o : Nat) (ho : o ≤ 2048) {X X' : (⟨3, ![16, 2304, 1024]⟩ : Shape).Idx → EReal} {M M' : (⟨2, ![24, 2048]⟩ : Shape).Idx → EReal}
    {G G' : (⟨1, ![1024]⟩ : Shape).Idx → EReal} {W W' : (⟨2, ![1024, 3072]⟩ : Shape).Idx → EReal} (hX : X = X') (hM : M = M') (hG : G = G') (hW : W = W') :
    headsArr o ho X M G W = headsArr o ho X' M' G' W' := by
  rw [hX, hM, hG, hW]

/-- The kernel and the reference end with the same three results. -/
theorem algebraic : Cert.algebraic_Kernel3Ideal_Reference3Ideal := by
  intro m ρ m' ρ' _ hagree
  refine ⟨fun c => Cert.Kernel3Ideal.Proj.resultArr m 0 (by decide) c, fun c => Cert.Kernel3Ideal.Proj.resultArr m 1024 (by decide) c,
    fun c => Cert.Kernel3Ideal.Proj.resultArr m 2048 (by decide) c, ?_, ?_⟩
  · exact (θ_run Cert.Kernel3Ideal.defs _ _).mono
      (fun r h c => ⟨(h c).1.trans (Cert.Kernel3Ideal.Proj.arr4 m c), (h c).2.1.trans (Cert.Kernel3Ideal.Proj.arr5 m c),
        (h c).2.2.1.trans (Cert.Kernel3Ideal.Proj.arr6 m c), (h c).2.2.2⟩)
      (Cert.Kernel3Ideal.Value.run_blocks (F := Ideal) m ρ)
  · refine (θ_run Cert.Reference3Ideal.defs _ _).mono (fun r h c => ?_) (Cert.Reference3Ideal.Value.run (F := Ideal) m' ρ')
    obtain ⟨h0, h1, h2, h3⟩ := hagree c
    refine ⟨(h c).1.trans ?_, (h c).2.1.trans ?_, (h c).2.2.1.trans ?_, (h c).2.2.2⟩
    · exact ((Cert.Reference3Ideal.Read.val_main_v58_eq m' c).trans (Cert.Reference3Ideal.Proj.queries_eq _ _ _ _)).trans (headsArr_congr 0 _ h0 h1 h2 h3)
    · exact ((Cert.Reference3Ideal.Read.val_main_v61_eq m' c).trans (Cert.Reference3Ideal.Proj.keys_eq _ _ _ _)).trans (headsArr_congr 1024 _ h0 h1 h2 h3)
    · exact ((Cert.Reference3Ideal.Read.val_main_v64_eq m' c).trans (Cert.Reference3Ideal.Proj.values_eq _ _ _ _)).trans (headsArr_congr 2048 _ h0 h1 h2 h3)

end Cert.Proj

end
-- ==== Proof.lean ====
/- The certificate's claims, of the attention, of the experts and of the projection: the kernel and its ideal reading and the reference run without fault and
   leave their arguments as they were; the kernel's ideal reading is the kernel's own text; and over the extended reals the kernel's result
   is the reference's: attention's if both gains are finite, the experts' if the blocks are sorted by expert, the projection's always.
   Attention is proved in Proof/Attn: `Spec` states its plain functions, `Pieces`, `Tables`, `Keys`, `Out` and `Arr` read the kernel,
   `Ref` reads the reference, `Claim` sets the two beside each other. The experts are proved in Proof/Experts: `Sorted` reads the
   precondition, `Run`, `Frame` and `Tables` run the kernel (`RunI`, `FrameI` and `TablesI` its ideal reading), `Spec` states the plain
   function, `Value` reads the kernel, `Ref` the reference, `Claim` sets the two beside each other. The projection
   is proved in Proof/Proj: `Spec` states the plain function, `Value` reads the kernel, `Ref` the reference, `Claim` sets the two
   beside each other. -/
module

public import proofs.«01_k».proof.Proof.Attn.Claim
public import proofs.«01_k».proof.Proof.Gen.Kernel.Frame
public import proofs.«01_k».proof.Proof.Experts.Claim
public import proofs.«01_k».proof.Proof.Proj.Claim
public import proofs.«01_k».proof.Proof.Gen.Kernel3.Frame

@[expose] public section

noncomputable section

namespace Cert.Proof

open Idealize.ShloMosaic Idealize.SL.Sem

/-- The reference leaves its arguments as they were; it has no counter. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Attn.gains_facts, Cert.Pre_sorted_blocks.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  Cert.Experts.kernel_frame, Cert.Experts.ideal_frame, Cert.Experts.reference_frame, fun m ρ _ => Cert.Experts.reference_frame m ρ trivial,
  fun m ρ _ => Cert.Kernel3.Gen.frame m ρ, fun m ρ _ => Cert.Kernel3Ideal.Gen.frame m ρ, Cert.Proj.reference_frame,
  trivial, Cert.Attn.algebraic (self := Cert.Attn.gains_facts), trivial, Cert.Experts.algebraic,
  trivial, Cert.Proj.algebraic⟩

end Cert.Proof

end
